-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_rows_in_range [hPre_rows_in_range : Cert.Pre_rows_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_rows_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_in_range [hPre_rows_in_range : Cert.Pre_rows_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_rows_in_range [hKernelIdeal : Cert.KernelIdeal.Facts] [hPre_rows_in_range : Cert.Pre_rows_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rows_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_rows_in_range [hReferenceIdeal : Cert.ReferenceIdeal.Facts] [hPre_rows_in_range : Cert.Pre_rows_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_rows_in_range [hKernelIdeal : Cert.KernelIdeal.Facts] [hReferenceIdeal : Cert.ReferenceIdeal.Facts] [hPre_rows_in_range : Cert.Pre_rows_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rows_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v3) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_rows_in_range : Cert.Pre_rows_in_range.Facts),
    quiescent_Kernel (hKernel := hKernel)
    ∧ quiescent_KernelIdeal (hKernelIdeal := hKernelIdeal)
    ∧ quiescent_KernelIdeal_pre_rows_in_range (hKernelIdeal := hKernelIdeal) (hPre_rows_in_range := hPre_rows_in_range)
    ∧ quiescent_ReferenceIdeal (hReferenceIdeal := hReferenceIdeal)
    ∧ quiescent_ReferenceIdeal_pre_rows_in_range (hReferenceIdeal := hReferenceIdeal) (hPre_rows_in_range := hPre_rows_in_range)
    ∧ preserves_Kernel_KernelIdeal
    ∧ algebraic_KernelIdeal_ReferenceIdeal_pre_rows_in_range (hKernelIdeal := hKernelIdeal) (hReferenceIdeal := hReferenceIdeal) (hPre_rows_in_range := hPre_rows_in_range)
-- ==== Pre_rows_in_range.lean ====
abbrev S4x1024x1024 : Shape := ⟨3, ![4, 1024, 1024]⟩
abbrev S9216x1024 : Shape := ⟨2, ![9216, 1024]⟩
abbrev S9216 : Shape := ⟨1, ![9216]⟩
abbrev S_ : Shape := ⟨0, ![]⟩
abbrev S4x1024 : Shape := ⟨2, ![4, 1024]⟩

class Facts : Prop where
  reducesTo_S4x1024x1024_S4x1024_d2 : S4x1024x1024.ReducesTo [2] S4x1024
  h_S_ : 0 < S_.numel
  bitsLt_bf16_f32 : FTy.bits .bf16 < FTy.bits .f32
  bcast_S_S4x1024 : S_.BroadcastsInDim S4x1024 (![] : Fin 0 → Fin S4x1024.rank)

variable [Facts]

def fn {F : FTy → Type} [FloatOps F] (main_arg0 : FVec F S4x1024x1024 .bf16) (main_arg1 : FVec F S9216x1024 .fp8e4m3) (main_arg2 : FVec F S9216 .f32) (main_arg3 : FVec F S9216 .f32) : IVec S4x1024 1 :=
  let main_v0 : FVec F S4x1024x1024 .bf16 := Host.absf main_arg0
  let main_cst : FVec F S_ .bf16 := constant S_ .bf16 0xFF80#16
  let main_v1 : FVec F S4x1024 .bf16 := (fun x v => Host.reduce FloatOps.maximumf x v reducesTo_S4x1024x1024_S4x1024_d2 h_S_) main_v0 main_cst
  let main_v2 : FVec F S4x1024 .f32 := (extf .f32 · bitsLt_bf16_f32) main_v1
  let main_cst_0 : FVec F S_ .f32 := constant S_ .f32 0x3B124925#32
  let main_v3 : FVec F S4x1024 .f32 := broadcastInDim S4x1024 ![] bcast_S_S4x1024 main_cst_0
  let main_v4 : FVec F S4x1024 .f32 := mulf main_v2 main_v3
  let main_cst_1 : FVec F S_ .f32 := constant S_ .f32 0x00000000#32
  let main_v5 : FVec F S4x1024 .f32 := broadcastInDim S4x1024 ![] bcast_S_S4x1024 main_cst_1
  let main_v6 : IVec S4x1024 1 := cmpf .oeq main_v2 main_v5
  let main_cst_2 : FVec F S_ .f32 := constant S_ .f32 0x00800000#32
  let main_v7 : FVec F S4x1024 .f32 := broadcastInDim S4x1024 ![] bcast_S_S4x1024 main_cst_2
  let main_v8 : IVec S4x1024 1 := cmpf .oge main_v4 main_v7
  let main_cst_3 : FVec F S_ .f32 := constant S_ .f32 0x7E800000#32
  let main_v9 : FVec F S4x1024 .f32 := broadcastInDim S4x1024 ![] bcast_S_S4x1024 main_cst_3
  let main_v10 : IVec S4x1024 1 := cmpf .olt main_v4 main_v9
  let main_v11 : IVec S4x1024 1 := andi main_v8 main_v10
  let main_v12 : IVec S4x1024 1 := ori main_v6 main_v11
  main_v12
-- ==== Kernel.lean ====
abbrev S4x1024x1024 : Shape := ⟨3, ![4, 1024, 1024]⟩
abbrev S9216x1024 : Shape := ⟨2, ![9216, 1024]⟩
abbrev S9216 : Shape := ⟨1, ![9216]⟩
abbrev S1x9216 : Shape := ⟨2, ![1, 9216]⟩
abbrev S4x1024x9216 : Shape := ⟨3, ![4, 1024, 9216]⟩
abbrev S1x4096 : Shape := ⟨2, ![1, 4096]⟩
abbrev S1x512x1024 : Shape := ⟨3, ![1, 512, 1024]⟩
abbrev S1x2304 : Shape := ⟨2, ![1, 2304]⟩
abbrev S1x512x2304 : Shape := ⟨3, ![1, 512, 2304]⟩
abbrev S1x512 : Shape := ⟨2, ![1, 512]⟩
abbrev S512x1 : Shape := ⟨2, ![512, 1]⟩
abbrev S512x1024 : Shape := ⟨2, ![512, 1024]⟩
abbrev S512 : Shape := ⟨1, ![512]⟩
abbrev S256x1024 : Shape := ⟨2, ![256, 1024]⟩
abbrev S512x256 : Shape := ⟨2, ![512, 256]⟩
abbrev S1x256 : Shape := ⟨2, ![1, 256]⟩
abbrev S1x512x256 : Shape := ⟨3, ![1, 512, 256]⟩
abbrev S4x1024x1 : Shape := ⟨3, ![4, 1024, 1]⟩

abbrev nBuf : Space → Nat
  | .hbm => 10
  | .vmem => 14
  | .smem => 0
  | _ => 0

abbrev bufTy : (tb : Table) → Fin (tcTables nBuf tb) → BufTy
  | .hbm, ⟨0, _⟩ => ⟨S4x1024x1024, .bf16⟩
  | .hbm, ⟨1, _⟩ => ⟨S9216x1024, .fp8e4m3⟩
  | .hbm, ⟨2, _⟩ => ⟨S9216, .f32⟩
  | .hbm, ⟨3, _⟩ => ⟨S9216, .f32⟩
  | .hbm, ⟨4, _⟩ => ⟨S1x9216, .f32⟩
  | .hbm, ⟨5, _⟩ => ⟨S1x9216, .f32⟩
  | .hbm, ⟨6, _⟩ => ⟨S4x1024x9216, .bf16⟩
  | .hbm, ⟨7, _⟩ => ⟨S4x1024x1024, .fp8e4m3⟩
  | .hbm, ⟨8, _⟩ => ⟨S1x4096, .f32⟩
  | .hbm, ⟨9, _⟩ => ⟨S4x1024x1, .f32⟩
  | .local _ .vmem, ⟨0, _⟩ => ⟨S1x512x1024, .bf16⟩
  | .local _ .vmem, ⟨1, _⟩ => ⟨S1x512x1024, .bf16⟩
  | .local _ .vmem, ⟨2, _⟩ => ⟨S9216x1024, .fp8e4m3⟩
  | .local _ .vmem, ⟨3, _⟩ => ⟨S1x2304, .f32⟩
  | .local _ .vmem, ⟨4, _⟩ => ⟨S1x2304, .f32⟩
  | .local _ .vmem, ⟨5, _⟩ => ⟨S1x2304, .f32⟩
  | .local _ .vmem, ⟨6, _⟩ => ⟨S1x2304, .f32⟩
  | .local _ .vmem, ⟨7, _⟩ => ⟨S1x512x2304, .bf16⟩
  | .local _ .vmem, ⟨8, _⟩ => ⟨S1x512x2304, .bf16⟩
  | .local _ .vmem, ⟨9, _⟩ => ⟨S1x512x1024, .fp8e4m3⟩
  | .local _ .vmem, ⟨10, _⟩ => ⟨S1x512x1024, .fp8e4m3⟩
  | .local _ .vmem, ⟨11, _⟩ => ⟨S1x512, .f32⟩
  | .local _ .vmem, ⟨12, _⟩ => ⟨S1x512, .f32⟩
  | .local _ .vmem, ⟨13, _⟩ => ⟨S512x1, .f32⟩
  | _, _ => ⟨S4x1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 4], ![false, false]⟩

def k0_off1 (i : grid0.Coords) (c0_i32_5 : BitVec 32) : Fin 2 → Nat :=
  let arg1 : BitVec 32 := BitVec.ofNat 32 (i 1).val
  let c2304_i32 : BitVec 32 := 2304#32
  let v6 : BitVec 32 := Scalar.muli arg1 c2304_i32
  let v7 : BitVec 32 := Scalar.addi v6 c0_i32_5
  let v8 : Index := Scalar.indexCast v7
  let c0_6 : Index := 0#32
  ![v8.toNat, 0]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, v26.toNat, arg1.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S9216x1024 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2304 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x2304 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceIdeal.lean ====
abbrev S4x1024x1024 : Shape := ⟨3, ![4, 1024, 1024]⟩
abbrev S9216x1024 : Shape := ⟨2, ![9216, 1024]⟩
abbrev S9216 : Shape := ⟨1, ![9216]⟩
abbrev S4x1024x9216 : Shape := ⟨3, ![4, 1024, 9216]⟩
abbrev S4x1024x1 : Shape := ⟨3, ![4, 1024, 1]⟩
abbrev S4x1024 : Shape := ⟨2, ![4, 1024]⟩
abbrev S4096x1024 : Shape := ⟨2, ![4096, 1024]⟩
abbrev S4096x9216 : Shape := ⟨2, ![4096, 9216]⟩
abbrev S1x1x9216 : Shape := ⟨3, ![1, 1, 9216]⟩

abbrev nBuf : Space → Nat
  | .hbm => 7
  | .vmem => 7
  | .smem => 0
  | _ => 0

abbrev bufTy : (tb : Table) → Fin (tcTables nBuf tb) → BufTy
  | .hbm, ⟨0, _⟩ => ⟨S4x1024x1024, .bf16⟩
  | .hbm, ⟨1, _⟩ => ⟨S9216x1024, .fp8e4m3⟩
  | .hbm, ⟨2, _⟩ => ⟨S9216, .f32⟩
  | .hbm, ⟨3, _⟩ => ⟨S9216, .f32⟩
  | .hbm, ⟨4, _⟩ => ⟨S4x1024x9216, .bf16⟩
  | .hbm, ⟨5, _⟩ => ⟨S4x1024x1024, .fp8e4m3⟩
  | .hbm, ⟨6, _⟩ => ⟨S4x1024x1, .f32⟩
  | .local _ .vmem, ⟨0, _⟩ => ⟨S4x1024x1024, .bf16⟩
  | .local _ .vmem, ⟨1, _⟩ => ⟨S9216x1024, .fp8e4m3⟩
  | .local _ .vmem, ⟨2, _⟩ => ⟨S9216, .f32⟩
  | .local _ .vmem, ⟨3, _⟩ => ⟨S9216, .f32⟩
  | .local _ .vmem, ⟨4, _⟩ => ⟨S4x1024x9216, .bf16⟩
  | .local _ .vmem, ⟨5, _⟩ => ⟨S4x1024x1024, .fp8e4m3⟩
  | .local _ .vmem, ⟨6, _⟩ => ⟨S4x1024x1, .f32⟩
  | _, _ => ⟨S4x1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S4x1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S9216x1024 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S9216 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S9216 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x1024x9216 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x1024x1024 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x1024x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Own.Setup.lean ====
module

public import proofs.«01_k».proof.Proof.Gen.KernelIdeal.Frame
public import proofs.«01_k».proof.Proof.Gen.KernelIdeal.Skeleton
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition under which the body quantises: the column coordinate is zero. -/
abbrev cond0_0 (i : grid0.Coords) : Prop := k0_cond1 i = 1#1
/-- It holds at the points ≡ 0 (mod 4) — by arithmetic of the point. -/
theorem hcond0_0 : ∀ t : Fin cfg0.N, cond0_0 (grid0.coords t) ↔ t.val % 4 = 0 :=
  (fun t => by
    have ht : t.val < 32 := Nat.lt_of_lt_of_eq t.isLt N_0
    have e0 : (grid0.coords t 0).val = t.val / 4 % 8 := Pipeline.Grid.coords_val t 0 (by decide) rfl
    have e1 : (grid0.coords t 1).val = t.val / 1 % 4 := Pipeline.Grid.coords_val t 1 (by decide) rfl
    simp only [cond0_0, k0_cond1, e0, e1]
    word_cmp
   : ∀ t : Fin grid0.N, cond0_0 (grid0.coords t) ↔ t.val % 4 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an output stored at every point, under no condition). -/
theorem liveAt0_4 : ∀ t : Fin cfg0.N, cfg0.idle 4 (grid0.coords t) = false := fun _ => rfl
/-- Output 5 (the codes) is stored at the points of the first column block. -/
theorem liveAt0_5_A : ∀ t : Fin cfg0.N, cond0_0 (grid0.coords t) → cfg0.idle 5 (grid0.coords t) = false := by decide +kernel
/-- Output 5 is not stored at the other points. -/
theorem idleAt0_5_B : ∀ t : Fin cfg0.N, ¬cond0_0 (grid0.coords t) → cfg0.idle 5 (grid0.coords t) = true := by decide +kernel
/-- A bitmask for the positions at which nothing of output 5 stored since its last write-back is held. -/
def freshTab0_5 : ℕ → Bool
  | 0 => true
  | n + 1 => (0x88888888 : ℕ).testBit n
theorem freshTab0_5_step : ∀ t : Fin cfg0.N,
    freshTab0_5 (t.val + 1) = ((cfg0.win 5).flush t || (cfg0.idle 5 (cfg0.grid.coords t) && freshTab0_5 t.val)) := by decide +kernel
theorem fresh0_5_eq (t : Fin cfg0.N) : cfg0.fresh 5 t.val = freshTab0_5 t.val :=
  Pipeline.Cfg.fresh_tab cfg0 5 freshTab0_5 rfl freshTab0_5_step t.val (Nat.le_of_lt t.isLt)
/-- At the points that do not store output 5 its buffer still holds what was stored for the row block. -/
theorem notFresh0_5_B : ∀ t : Fin cfg0.N, ¬cond0_0 (grid0.coords t) → cfg0.fresh 5 t.val = false := by
  intro t; rw [fresh0_5_eq t]; revert t; decide +kernel

/-- Output 6 (the scales) is stored at the points of the first column block. -/
theorem liveAt0_6_A : ∀ t : Fin cfg0.N, cond0_0 (grid0.coords t) → cfg0.idle 6 (grid0.coords t) = false := by decide +kernel
/-- Output 6 is not stored at the other points. -/
theorem idleAt0_6_B : ∀ t : Fin cfg0.N, ¬cond0_0 (grid0.coords t) → cfg0.idle 6 (grid0.coords t) = true := by decide +kernel
/-- A bitmask for the positions at which nothing of output 6 stored since its last write-back is held. -/
def freshTab0_6 : ℕ → Bool
  | 0 => true
  | n + 1 => (0x88888888 : ℕ).testBit n
theorem freshTab0_6_step : ∀ t : Fin cfg0.N,
    freshTab0_6 (t.val + 1) = ((cfg0.win 6).flush t || (cfg0.idle 6 (cfg0.grid.coords t) && freshTab0_6 t.val)) := by decide +kernel
theorem fresh0_6_eq (t : Fin cfg0.N) : cfg0.fresh 6 t.val = freshTab0_6 t.val :=
  Pipeline.Cfg.fresh_tab cfg0 6 freshTab0_6 rfl freshTab0_6_step t.val (Nat.le_of_lt t.isLt)
/-- At the points that do not store output 6 its buffer still holds what was stored for the row block. -/
theorem notFresh0_6_B : ∀ t : Fin cfg0.N, ¬cond0_0 (grid0.coords t) → cfg0.fresh 6 t.val = false := by
  intro t; rw [fresh0_6_eq t]; revert t; decide +kernel

/-! ## The kernel body on any staging memrefs: a subtype the run finds -/

/-- One staging buffer of output window 4, through which its contents are stated (`View.read_writes_of_cover`: the
    choice does not matter). -/
abbrev VO0_4 : View sig .tc .vmem S1x512x2304 .bf16 := (Memref.whole cc0_stg4_0 : Memref sig .tc .vmem S1x512x2304 .bf16).view
/-- One staging buffer of output window 5, through which its contents are stated (`View.read_writes_of_cover`: the
    choice does not matter). -/
abbrev VO0_5 : View sig .tc .vmem S1x512x1024 .fp8e4m3 := (Memref.whole cc0_stg5_0 : Memref sig .tc .vmem S1x512x1024 .fp8e4m3).view
/-- One staging buffer of output window 6, through which its contents are stated (`View.read_writes_of_cover`: the
    choice does not matter). -/
abbrev VO0_6 : View sig .tc .vmem S1x512 .f32 := (Memref.whole cc0_stg6_0 : Memref sig .tc .vmem S1x512 .f32).view
/-- Each window's current staging memref at point `t`, spelled as the pipeline passes it (`bodyAt0`), and its wholeness. -/
abbrev ms0_0 (t : Fin cfg0.N) : Memref sig .tc .vmem S1x512x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S9216x1024 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2304 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2304 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512x2304 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512x1024 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x512 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S512x1 .f32 := Memref.whole cc0_scratch0
/-- The scratch `arg9` the kernel carries between points, as a view: what it holds is stated through it. -/
abbrev VS0_0 : View sig .tc .vmem S512x1 .f32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Own

end
-- ==== Proof.Own.RunA.lean ====
module

public import proofs.«01_k».proof.Proof.Own.Setup
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at a point of the first column block, on whole memrefs: the operands are read at `x0`, `x1`, `x2`, `x3`, and
    the three outputs and the carried column of scales end with the listed pieces written. -/
noncomputable def kernelRun0_A (c : Dev nD) (i : grid0.Coords) (arg2 : Memref sig .tc .vmem S1x512x1024 .bf16) (harg2 : arg2.IsWhole) (arg3 : Memref sig .tc .vmem S9216x1024 .fp8e4m3) (harg3 : arg3.IsWhole) (arg4 : Memref sig .tc .vmem S1x2304 .f32) (harg4 : arg4.IsWhole) (arg5 : Memref sig .tc .vmem S1x2304 .f32) (harg5 : arg5.IsWhole) (arg6 : Memref sig .tc .vmem S1x512x2304 .bf16) (harg6 : arg6.IsWhole) (arg7 : Memref sig .tc .vmem S1x512x1024 .fp8e4m3) (harg7 : arg7.IsWhole) (arg8 : Memref sig .tc .vmem S1x512 .f32) (harg8 : arg8.IsWhole) (arg9 : Memref sig .tc .vmem S512x1 .f32) (harg9 : arg9.IsWhole) (hc0 : cond0_0 i)
    (x0 : Vec F S1x512x1024 .bf16) (x1 : Vec F S9216x1024 .fp8e4m3) (x2 : Vec F S1x2304 .f32) (x3 : Vec F S1x2304 .f32) :
    Σ' (L4 : List (View.Piece (Elt F) S1x512x2304 .bf16)), Σ' (L5 : List (View.Piece (Elt F) S1x512x1024 .fp8e4m3)), Σ' (L6 : List (View.Piece (Elt F) S1x512 .f32)), { LS0 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc0__linear_kernel i arg2 harg2 arg3 harg3 arg4 harg4 arg5 harg5 arg6 harg6 arg7 harg7 arg8 harg8 arg9 harg9) K } := by
  refine ⟨?_, ?_, ?_, ?_, fun E K => ?run⟩
  case run =>
    simp only [cc0__linear_kernel_eq_skeleton]; unfold cc0__linear_kernel_skel
    simp only [k0_part4_eq_skeleton, k0_part1_eq_skeleton, k0_part2_eq_skeleton, k0_part3_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    iexists _; iexact HS0

end Cert.KernelIdeal.Own

end
-- ==== Proof.Own.RunB.lean ====
module

public import proofs.«01_k».proof.Proof.Own.RunA
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at a point of a later column block, on whole memrefs: the codes are read at `xo5` and the scales at `xs0`, both
    left as found, and the output block ends with the listed pieces written. -/
noncomputable def kernelRun0_B (c : Dev nD) (i : grid0.Coords) (arg2 : Memref sig .tc .vmem S1x512x1024 .bf16) (harg2 : arg2.IsWhole) (arg3 : Memref sig .tc .vmem S9216x1024 .fp8e4m3) (harg3 : arg3.IsWhole) (arg4 : Memref sig .tc .vmem S1x2304 .f32) (harg4 : arg4.IsWhole) (arg5 : Memref sig .tc .vmem S1x2304 .f32) (harg5 : arg5.IsWhole) (arg6 : Memref sig .tc .vmem S1x512x2304 .bf16) (harg6 : arg6.IsWhole) (arg7 : Memref sig .tc .vmem S1x512x1024 .fp8e4m3) (harg7 : arg7.IsWhole) (arg8 : Memref sig .tc .vmem S1x512 .f32) (harg8 : arg8.IsWhole) (arg9 : Memref sig .tc .vmem S512x1 .f32) (harg9 : arg9.IsWhole) (hc0 : ¬cond0_0 i)
    (x0 : Vec F S1x512x1024 .bf16) (x1 : Vec F S9216x1024 .fp8e4m3) (x2 : Vec F S1x2304 .f32) (x3 : Vec F S1x2304 .f32) (xo5 : Vec F S1x512x1024 .fp8e4m3) (xs0 : Vec F S512x1 .f32) :
    { L4 : List (View.Piece (Elt F) S1x512x2304 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xo5 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xo5 ∗ owns (c : Thread nD τ) arg9 fullShare xs0) -∗ K ⟨⟩))
          ⊢ wp frame (wpE (defs₀ (F := F)) Variants.none c none) E (cc0__linear_kernel i arg2 harg2 arg3 harg3 arg4 harg4 arg5 harg5 arg6 harg6 arg7 harg7 arg8 harg8 arg9 harg9) K } := by
  refine ⟨?_, fun E K => ?run⟩
  case run =>
    simp only [cc0__linear_kernel_eq_skeleton]; unfold cc0__linear_kernel_skel
    simp only [k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hf5; obtain rfl := harg9.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg7.read_unread _
      iexact H5
    iexists _; isplitr; · ipureintro; exact harg9.read_unread _
    iexact HS0

end Cert.KernelIdeal.Own

end
-- ==== Proof.Own.Blocks.lean ====
module

public import proofs.«01_k».proof.Proof.Gen.KernelIdeal.Skeleton
public import Idealize.ShloMosaic.Lib.Pointwise
public import Idealize.ShloMosaic.Lib.WordCmp

@[expose] public section

set_option maxRecDepth 16384

noncomputable section

namespace Cert.KernelIdeal.Own

open Cert.KernelIdeal Cert.KernelIdeal.Gen
open Idealize.ShloMosaic Idealize.ShloMosaic.TcCoe

/-! ## What one block of the body computes

`codesBlk` and `scaleBlk` are the codes and the scales of one block of rows of `x`; `yBlk` is the output block made of the
codes, the scales and the weights, entry by entry. -/

section
variable {F : FTy → Type} [FloatOps F]

/-- The exponent fields the search finds for the rows of a block. -/
def fieldBlk (x : Vec F S1x512x1024 .bf16) : IVec S512x1 32 := k0_pay7 (k0_pay5 x) (k0_pay6 x)
/-- The codes of a block of rows. -/
def codesBlk (x : Vec F S1x512x1024 .bf16) : Vec F S1x512x1024 .fp8e4m3 :=
  k0_pay11 (k0_pay9 (k0_pay3 x) (k0_pay4 x) (k0_pay5 x) (fieldBlk x))
/-- The scales of a block of rows, as a column. -/
def scaleBlk (x : Vec F S1x512x1024 .bf16) : Vec F S512x1 .f32 :=
  k0_pay12 (k0_pay10 (k0_pay4 x) (k0_pay5 x) (fieldBlk x))
/-- The scales of a block of rows, as a row. -/
def scaleRow (x : Vec F S1x512x1024 .bf16) : Vec F S1x512 .f32 :=
  k0_pay13 (k0_pay10 (k0_pay4 x) (k0_pay5 x) (fieldBlk x))

/-- The printed chunks are all the first chunk's computation. -/
theorem pay17_eq (v3 : Vec F S1x512x1024 .fp8e4m3) (v5 : Vec F S512x1 .f32) (w : Vec F S256x1024 .fp8e4m3) (ws b : Vec F S1x256 .f32) :
    k0_pay17 (k0_pay16 v3 v5 w) ws b = k0_pay15 v3 v5 w ws b := rfl
theorem pay18_eq (v3 : Vec F S1x512x1024 .fp8e4m3) (v5 : Vec F S512x1 .f32) (w : Vec F S256x1024 .fp8e4m3) (ws b : Vec F S1x256 .f32) :
    k0_pay18 (k0_pay14 v3) v5 w ws b = k0_pay15 v3 v5 w ws b := rfl
theorem pay20_eq (v3 : Vec F S1x512x1024 .fp8e4m3) (v5 : Vec F S512x1 .f32) (w : Vec F S256x1024 .fp8e4m3) (ws b : Vec F S1x256 .f32) :
    k0_pay20 (k0_pay19 (k0_pay14 v3) v5 w) ws b = k0_pay15 v3 v5 w ws b := rfl
theorem pay21_eq (v3 : Vec F S1x512x1024 .fp8e4m3) (v5 : Vec F S512x1 .f32) (w : Vec F S256x1024 .fp8e4m3) (ws b : Vec F S1x256 .f32) :
    k0_pay21 (k0_pay14 v3) v5 w ws b = k0_pay15 v3 v5 w ws b := rfl
theorem pay23_eq (v3 : Vec F S1x512x1024 .fp8e4m3) (v5 : Vec F S512x1 .f32) (w : Vec F S256x1024 .fp8e4m3) (ws b : Vec F S1x256 .f32) :
    k0_pay23 v5 (k0_pay22 (k0_pay14 v3) w) ws b = k0_pay15 v3 v5 w ws b := rfl
theorem pay24_eq (v3 : Vec F S1x512x1024 .fp8e4m3) (v5 : Vec F S512x1 .f32) (w : Vec F S256x1024 .fp8e4m3) (ws b : Vec F S1x256 .f32) :
    k0_pay24 (k0_pay14 v3) v5 w ws b = k0_pay15 v3 v5 w ws b := rfl
theorem pay1_eq (v3 : Vec F S1x512x1024 .fp8e4m3) (v5 : Vec F S512x1 .f32) (w : Vec F S256x1024 .fp8e4m3) (ws b : Vec F S1x256 .f32) :
    k0_pay1 (k0_pay14 v3) v5 w ws b = k0_pay15 v3 v5 w ws b := rfl
theorem pay2_eq (v3 : Vec F S1x512x1024 .fp8e4m3) (v5 : Vec F S512x1 .f32) (w : Vec F S256x1024 .fp8e4m3) (ws b : Vec F S1x256 .f32) :
    k0_pay2 (k0_pay14 v3) v5 w ws b = k0_pay15 v3 v5 w ws b := rfl

end

/-- A chunk of the output block at an entry. -/
theorem pay15_apply (v3 : Vec Ideal S1x512x1024 .fp8e4m3) (v5 : Vec Ideal S512x1 .f32) (w : Vec Ideal S256x1024 .fp8e4m3)
    (ws b : Vec Ideal S1x256 .f32) (r : Fin 512) (n : Fin 256) :
    (k0_pay15 v3 v5 w ws b (ix3 0 r n) : EReal)
      = (∑ k : Fin 1024, (v3 (ix3 0 r k) : EReal) * w (ix2 n k)) * v5 (ix2 r 0) * ws (ix2 0 n) + b (ix2 0 n) := by
  pointwise [k0_pay15, k0_pay14]

/-- The output block at row `r` and column `n`, for the column block `j`: the row of codes against row `2304 j + n` of the weights,
    times the two scales, plus the bias. -/
def yAt (j : Fin 4) (C : Vec Ideal S1x512x1024 .fp8e4m3) (S : Vec Ideal S512x1 .f32) (w : Vec Ideal S9216x1024 .fp8e4m3)
    (ws b : Vec Ideal S1x2304 .f32) (r : Fin 512) (n : Fin 2304) : EReal :=
  (∑ k : Fin 1024, (C (ix3 0 r k) : EReal) * w (ix2 ⟨2304 * j.val + n.val, by omega⟩ k)) * S (ix2 r 0) * ws (ix2 0 n) + b (ix2 0 n)

section
variable {F : FTy → Type} [FloatOps F]

/-- Rows `2304 j + 256 q` to `2304 j + 256 q + 255` of the weights. -/
def wChunk (j : Fin 4) (q : Fin 9) (w : Vec F S9216x1024 .fp8e4m3) : Vec F S256x1024 .fp8e4m3 :=
  fun x => w (ix2 ⟨2304 * j.val + (256 * q.val + (x 0).val), by have : (x 0).val < 256 := (x 0).isLt; omega⟩ (x 1))
/-- Columns `256 q` to `256 q + 255` of a row vector. -/
def rowChunk (q : Fin 9) (b : Vec F S1x2304 .f32) : Vec F S1x256 .f32 :=
  fun x => b (ix2 0 ⟨256 * q.val + (x 1).val, by have : (x 1).val < 256 := (x 1).isLt; omega⟩)
/-- The output block for the column block `j`, made of nine chunks of 256 columns. -/
def yBlk (j : Fin 4) (C : Vec F S1x512x1024 .fp8e4m3) (S : Vec F S512x1 .f32) (w : Vec F S9216x1024 .fp8e4m3)
    (ws b : Vec F S1x2304 .f32) : Vec F S1x512x2304 .bf16 := fun y =>
  let q : Fin 9 := ⟨(y 2).val / 256, by have : (y 2).val < 2304 := (y 2).isLt; omega⟩
  k0_pay15 C S (wChunk j q w) (rowChunk q ws) (rowChunk q b) (ix3 0 (y 1) ⟨(y 2).val % 256, Nat.mod_lt _ (by decide)⟩)

end

/-- The output block at an entry. -/
theorem yBlk_apply (j : Fin 4) (C : Vec Ideal S1x512x1024 .fp8e4m3) (S : Vec Ideal S512x1 .f32) (w : Vec Ideal S9216x1024 .fp8e4m3)
    (ws b : Vec Ideal S1x2304 .f32) (r : Fin 512) (n : Fin 2304) :
    (yBlk j C S w ws b (ix3 0 r n) : EReal) = yAt j C S w ws b r n := by
  have e : (⟨256 * (n.val / 256) + n.val % 256, by omega⟩ : Fin 2304) = n := Fin.ext (Nat.div_add_mod _ _)
  have e' : (⟨2304 * j.val + (256 * (n.val / 256) + n.val % 256), by omega⟩ : Fin 9216) = ⟨2304 * j.val + n.val, by omega⟩ :=
    Fin.ext (congrArg (2304 * j.val + ·) (Nat.div_add_mod n.val 256))
  have h1 : ∀ k : Fin 1024, wChunk j ⟨n.val / 256, by omega⟩ w (ix2 ⟨n.val % 256, Nat.mod_lt _ (by decide)⟩ k)
      = w (ix2 ⟨2304 * j.val + n.val, by omega⟩ k) := fun k => congrArg (fun z => w (ix2 z k)) e'
  have h2 : ∀ v : Vec Ideal S1x2304 .f32, rowChunk ⟨n.val / 256, by omega⟩ v (ix2 0 ⟨n.val % 256, Nat.mod_lt _ (by decide)⟩) = v (ix2 0 n) :=
    fun v => congrArg (fun z => v (ix2 0 z)) e
  show (k0_pay15 C S (wChunk j ⟨n.val / 256, by omega⟩ w) (rowChunk ⟨n.val / 256, by omega⟩ ws) (rowChunk ⟨n.val / 256, by omega⟩ b)
    (ix3 0 r ⟨n.val % 256, Nat.mod_lt _ (by decide)⟩) : EReal) = _
  rw [pay15_apply, h2, h2]
  simp only [h1]
  rfl

section
variable {F : FTy → Type} [FloatOps F]

/-- The rows of the weights a chunk loads start at `2304 j + o`. -/
theorem off1_eq (i : grid0.Coords) (o : ℕ) (ho : o < 2304) :
    k0_off1 i (BitVec.ofNat 32 o) = ![2304 * (i 1).val + o, 0] := by
  have h : (i 1).val < 4 := (i 1).isLt
  have : (Scalar.indexCast (Scalar.addi (Scalar.muli (BitVec.ofNat 32 (i 1).val) 2304#32) (BitVec.ofNat 32 o))).toNat
      = 2304 * (i 1).val + o := by
    simp only [Scalar.indexCast, Scalar.addi, Scalar.muli, IntOp.addi, IntOp.muli]
    simp [BitVec.toNat_add, BitVec.toNat_mul]
    omega
  show ![_, 0] = _
  rw [this]

/-- A chunk stored at columns `o` to `o + 255` is the output block there, when what it loads are the codes, the scales and its
    share of the weights, the weight scales and the bias. -/
theorem chunk_eq (i : grid0.Coords) (o : ℕ) (ho : o + 256 ≤ 2304) (h256 : o % 256 = 0) (C : Vec F S1x512x1024 .fp8e4m3) (S : Vec F S512x1 .f32)
    (w : Vec F S9216x1024 .fp8e4m3) (ws b : Vec F S1x2304 .f32)
    (v3 : Vec F S1x512x1024 .fp8e4m3) (v5 : Vec F S512x1 .f32) (wc : Vec F S256x1024 .fp8e4m3) (wsc bc : Vec F S1x256 .f32)
    (hv3 : v3 = C) (hv5 : v5 = S)
    (hw : ∀ (n : Fin 256) (k : Fin 1024), wc (ix2 n k) = w (ix2 ⟨2304 * (i 1).val + (o + n.val), by have : (i 1).val < 4 := (i 1).isLt; omega⟩ k))
    (hws : ∀ n : Fin 256, wsc (ix2 0 n) = ws (ix2 0 ⟨o + n.val, by omega⟩))
    (hb : ∀ n : Fin 256, bc (ix2 0 n) = b (ix2 0 ⟨o + n.val, by omega⟩))
    (inb : ∀ a, (![0, 0, o] : Fin 3 → ℕ) a + S1x512x256.size a ≤ S1x512x2304.size a) (x : S1x512x256.Idx) :
    k0_pay15 v3 v5 wc wsc bc x = yBlk (i 1) C S w ws b ((Rect.unit (s := S1x512x2304) ![0, 0, o] S1x512x256.size inb).emb x) := by
  subst hv3 hv5
  idx_vars x
  obtain rfl : x0 = 0 := Subsingleton.elim _ _
  have l1 : x1.val < 512 := x1.isLt
  have l2 : x2.val < 256 := x2.isLt
  have e1 : ((Rect.unit (s := S1x512x2304) ![0, 0, o] S1x512x256.size inb).emb (ix3 0 x1 x2)) 1 = x1 := by
    apply Fin.ext; show 0 + 1 * x1.val = x1.val; omega
  have e2 : ((Rect.unit (s := S1x512x2304) ![0, 0, o] S1x512x256.size inb).emb (ix3 0 x1 x2)) 2 = (⟨o + x2.val, by omega⟩ : Fin 2304) := by
    apply Fin.ext; show o + 1 * x2.val = o + x2.val; omega
  have eq : 256 * ((o + x2.val) / 256) = o := by omega
  have em : (⟨(o + x2.val) % 256, Nat.mod_lt _ (by decide)⟩ : Fin 256) = x2 := Fin.ext (by show (o + x2.val) % 256 = x2.val; omega)
  have q1 : wc = wChunk (i 1) ⟨(o + x2.val) / 256, by omega⟩ w := by
    funext z; idx_vars z
    refine (hw z0 z1).trans (congrArg (fun n => w (ix2 n z1)) (Fin.ext ?_))
    show 2304 * (i 1).val + (o + z0.val) = 2304 * (i 1).val + (256 * ((o + x2.val) / 256) + z0.val)
    rw [eq]
  have q2 : wsc = rowChunk ⟨(o + x2.val) / 256, by omega⟩ ws := by
    funext z; idx_vars z
    obtain rfl : z0 = 0 := Subsingleton.elim _ _
    refine (hws z1).trans (congrArg (fun n => ws (ix2 0 n)) (Fin.ext ?_))
    show o + z1.val = 256 * ((o + x2.val) / 256) + z1.val
    rw [eq]
  have q3 : bc = rowChunk ⟨(o + x2.val) / 256, by omega⟩ b := by
    funext z; idx_vars z
    obtain rfl : z0 = 0 := Subsingleton.elim _ _
    refine (hb z1).trans (congrArg (fun n => b (ix2 0 n)) (Fin.ext ?_))
    show o + z1.val = 256 * ((o + x2.val) / 256) + z1.val
    rw [eq]
  unfold yBlk
  dsimp only
  simp only [e1, e2, em]
  rw [← q1, ← q2, ← q3]

end

end Cert.KernelIdeal.Own

end
-- ==== Proof.Own.RunValue.lean ====
module

public import proofs.«01_k».proof.Proof.Own.RunB
public import proofs.«01_k».proof.Proof.Own.Blocks
public import Idealize.ShloMosaic.Lib.VecWindow
public import Idealize.ShloMosaic.Lib.WholeRead
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the pieces of a run of the body hold -/

/-- A load of a chunk of a row vector. -/
theorem row_load {e : EltTy} (a : Memref sig .tc .vmem S1x2304 e) (h : a.IsWhole) (x : Vec F S1x2304 e) (o : ℕ) (ho : o + 256 ≤ 2304)
    (inb : ∀ d, (![0, o] : Fin 2 → ℕ) d + S1x256.size d ≤ S1x2304.size d) (n : Fin 256) :
    View.readAt (Elt F) a.view (Rect.unit (s := S1x2304) ![0, o] S1x256.size inb).toLoadRect (h.unread x) (ix2 0 n)
      = x (ix2 0 ⟨o + n.val, by omega⟩) := by
  refine (h.readAt_unread x _ _).trans (congrArg x (funext fun d => Fin.ext ?_))
  fin_cases d
  · rfl
  · show o + 1 * n.val = o + n.val; omega

/-- A load of a chunk of the weights. -/
theorem w_load (i : grid0.Coords) (a : Memref sig .tc .vmem S9216x1024 .fp8e4m3) (h : a.IsWhole) (x : Vec F S9216x1024 .fp8e4m3)
    (o : ℕ) (ho : o + 256 ≤ 2304)
    (inb : ∀ d, k0_off1 i (BitVec.ofNat 32 o) d + S256x1024.size d ≤ S9216x1024.size d) (n : Fin 256) (k : Fin 1024) :
    View.readAt (Elt F) a.view (Rect.unit (s := S9216x1024) (k0_off1 i (BitVec.ofNat 32 o)) S256x1024.size inb).toLoadRect (h.unread x) (ix2 n k)
      = x (ix2 ⟨2304 * (i 1).val + (o + n.val), by have : (i 1).val < 4 := (i 1).isLt; omega⟩ k) := by
  refine (h.readAt_unread x _ _).trans (congrArg x (funext fun d => Fin.ext ?_))
  have e := off1_eq i o (by omega)
  fin_cases d
  · show k0_off1 i (BitVec.ofNat 32 o) 0 + 1 * n.val = 2304 * (i 1).val + (o + n.val)
    rw [e]; show 2304 * (i 1).val + o + 1 * n.val = _; omega
  · show k0_off1 i (BitVec.ofNat 32 o) 1 + 1 * k.val = k.val
    rw [e]; show 0 + 1 * k.val = _; omega

/-- A load of a whole memref reads its contents. -/
theorem whole_load {S : Shape} {e : EltTy} (a : Memref sig .tc .vmem S e) (h : a.IsWhole) (x : Vec F S e) (off : Fin S.rank → ℕ)
    (inb : ∀ d, off d + S.size d ≤ S.size d) :
    View.readAt (Elt F) a.view (Rect.unit (s := S) off S.size inb).toLoadRect (h.unread x) = x := by
  rw [View.readAt_full]; exact h.read_unread x

section
variable (c : Dev nD) (i : grid0.Coords) (arg2 : Memref sig .tc .vmem S1x512x1024 .bf16) (harg2 : arg2.IsWhole) (arg3 : Memref sig .tc .vmem S9216x1024 .fp8e4m3) (harg3 : arg3.IsWhole) (arg4 : Memref sig .tc .vmem S1x2304 .f32) (harg4 : arg4.IsWhole) (arg5 : Memref sig .tc .vmem S1x2304 .f32) (harg5 : arg5.IsWhole) (arg6 : Memref sig .tc .vmem S1x512x2304 .bf16) (harg6 : arg6.IsWhole) (arg7 : Memref sig .tc .vmem S1x512x1024 .fp8e4m3) (harg7 : arg7.IsWhole) (arg8 : Memref sig .tc .vmem S1x512 .f32) (harg8 : arg8.IsWhole) (arg9 : Memref sig .tc .vmem S512x1 .f32) (harg9 : arg9.IsWhole) (x0 : Vec F S1x512x1024 .bf16) (x1 : Vec F S9216x1024 .fp8e4m3) (x2 : Vec F S1x2304 .f32) (x3 : Vec F S1x2304 .f32)

/-- The block of `x` as the body loads it in the quantising case. -/
theorem A_r : kernelRun0_A.sl.r c arg2 harg2 x0 = k0_pay3 x0 := by
  unfold kernelRun0_A.sl.r; rw [whole_load arg2 harg2 x0]
theorem A_r1 : kernelRun0_A.sl.r_1 c arg2 harg2 x0 = k0_pay4 x0 := by
  unfold kernelRun0_A.sl.r_1; rw [whole_load arg2 harg2 x0]
theorem A_r2 : kernelRun0_A.sl.r_2 c arg2 harg2 x0 = k0_pay5 x0 := by
  unfold kernelRun0_A.sl.r_2; rw [whole_load arg2 harg2 x0]
theorem A_r3 : kernelRun0_A.sl.r_3 c arg2 harg2 x0 = k0_pay6 x0 := by
  unfold kernelRun0_A.sl.r_3; rw [whole_load arg2 harg2 x0]
theorem A_r4 : kernelRun0_A.sl.r_4 c arg2 harg2 x0 = fieldBlk x0 := by
  unfold kernelRun0_A.sl.r_4; rw [A_r2, A_r3]; rfl
theorem A_r5 : k0_pay11 (kernelRun0_A.sl.r_5 c arg2 harg2 x0) = codesBlk x0 := by
  unfold kernelRun0_A.sl.r_5; rw [A_r, A_r1, A_r2, A_r4]; rfl
theorem A_r6 : kernelRun0_A.sl.r_6 c arg2 harg2 x0 = k0_pay10 (k0_pay4 x0) (k0_pay5 x0) (fieldBlk x0) := by
  unfold kernelRun0_A.sl.r_6; rw [A_r1, A_r2, A_r4]
/-- The codes and the scales as the body loads them back in the quantising case. -/
theorem A_v3 : kernelRun0_A.sl.v3 c arg2 harg2 arg7 x0 = codesBlk x0 := by
  unfold kernelRun0_A.sl.v3 kernelRun0_A.sl.H5_1; rw [View.readCov_full, A_r5]
theorem A_v5 : kernelRun0_A.sl.v5 c arg2 harg2 arg9 x0 = scaleBlk x0 := by
  unfold kernelRun0_A.sl.v5 kernelRun0_A.sl.HS0_1; rw [View.readCov_full, A_r6]; rfl

set_option maxHeartbeats 1000000 in
/-- The output block after the quantising case. -/
theorem A_y (hc0 : cond0_0 i) (f : arg6.view.ty.Contents (Elt F)) :
    arg6.view.read (Elt F) (arg6.view.writes (Elt F) f (kernelRun0_A c i arg2 harg2 arg3 harg3 arg4 harg4 arg5 harg5 arg6 harg6 arg7 harg7 arg8 harg8 arg9 harg9 hc0 x0 x1 x2 x3).1)
      = yBlk (i 1) (codesBlk x0) (scaleBlk x0) x1 x2 x3 := by
  funext y
  refine View.read_writes_apply_of_pieces arg6.view f _ _ ?_ y (View.cover_of_tiledL (s := S1x512x2304) _ S1x512x256.size (by sl_kernel_rfl) y)
  unfold kernelRun0_A kernelRun0_A.sl.r_7 kernelRun0_A.sl.r_8 kernelRun0_A.sl.r_9 kernelRun0_A.sl.r_10 kernelRun0_A.sl.r_11
  dsimp only
  simp only [List.forall_mem_cons, pay17_eq, pay18_eq, pay20_eq, pay21_eq, pay23_eq, pay24_eq, pay1_eq, pay2_eq]
  refine ⟨?_, ?_, ?_, ?_, ?_, ?_, ?_, ?_, ?_, fun _ h => absurd h List.not_mem_nil⟩ <;>
  · intro x
    exact chunk_eq i _ (by decide) (by decide) (codesBlk x0) (scaleBlk x0) x1 x2 x3 _ _ _ _ _ (A_v3 ..) (A_v5 ..)
      (w_load i arg3 harg3 x1 _ (by decide) _) (row_load arg4 harg4 x2 _ (by decide) _) (row_load arg5 harg5 x3 _ (by decide) _) _ x

/-- The codes after the quantising case. -/
theorem A_codes (hc0 : cond0_0 i) (f : arg7.view.ty.Contents (Elt F)) :
    arg7.view.read (Elt F) (arg7.view.writes (Elt F) f (kernelRun0_A c i arg2 harg2 arg3 harg3 arg4 harg4 arg5 harg5 arg6 harg6 arg7 harg7 arg8 harg8 arg9 harg9 hc0 x0 x1 x2 x3).2.1) = codesBlk x0 := by
  unfold kernelRun0_A; dsimp only; unfold kernelRun0_A.sl.H5_1
  rw [View.read_writes_full, A_r5]
/-- The row of scales after the quantising case. -/
theorem A_row (hc0 : cond0_0 i) (f : arg8.view.ty.Contents (Elt F)) :
    arg8.view.read (Elt F) (arg8.view.writes (Elt F) f (kernelRun0_A c i arg2 harg2 arg3 harg3 arg4 harg4 arg5 harg5 arg6 harg6 arg7 harg7 arg8 harg8 arg9 harg9 hc0 x0 x1 x2 x3).2.2.1) = scaleRow x0 := by
  unfold kernelRun0_A; dsimp only
  rw [A_r6]; exact View.read_writes_full _ _ _ _ _
/-- The carried column of scales after the quantising case. -/
theorem A_col (hc0 : cond0_0 i) (f : arg9.view.ty.Contents (Elt F)) :
    arg9.view.read (Elt F) (arg9.view.writes (Elt F) f (kernelRun0_A c i arg2 harg2 arg3 harg3 arg4 harg4 arg5 harg5 arg6 harg6 arg7 harg7 arg8 harg8 arg9 harg9 hc0 x0 x1 x2 x3).2.2.2.1) = scaleBlk x0 := by
  unfold kernelRun0_A; dsimp only; unfold kernelRun0_A.sl.HS0_1
  rw [View.read_writes_full, A_r6]; rfl

set_option maxHeartbeats 1000000 in
/-- The output block after the other case. -/
theorem B_y (hc0 : ¬cond0_0 i) (xo5 : Vec F S1x512x1024 .fp8e4m3) (xs0 : Vec F S512x1 .f32) (f : arg6.view.ty.Contents (Elt F)) :
    arg6.view.read (Elt F) (arg6.view.writes (Elt F) f (kernelRun0_B c i arg2 harg2 arg3 harg3 arg4 harg4 arg5 harg5 arg6 harg6 arg7 harg7 arg8 harg8 arg9 harg9 hc0 x0 x1 x2 x3 xo5 xs0).1)
      = yBlk (i 1) xo5 xs0 x1 x2 x3 := by
  funext y
  refine View.read_writes_apply_of_pieces arg6.view f _ _ ?_ y (View.cover_of_tiledL (s := S1x512x2304) _ S1x512x256.size (by sl_kernel_rfl) y)
  unfold kernelRun0_B kernelRun0_B.sl.r kernelRun0_B.sl.r_1 kernelRun0_B.sl.r_2 kernelRun0_B.sl.r_3 kernelRun0_B.sl.r_4
  dsimp only
  simp only [List.forall_mem_cons, pay17_eq, pay18_eq, pay20_eq, pay21_eq, pay23_eq, pay24_eq, pay1_eq, pay2_eq]
  refine ⟨?_, ?_, ?_, ?_, ?_, ?_, ?_, ?_, ?_, fun _ h => absurd h List.not_mem_nil⟩ <;>
  · intro x
    exact chunk_eq i _ (by decide) (by decide) xo5 xs0 x1 x2 x3 _ _ _ _ _ (whole_load arg7 harg7 xo5 _ _) (whole_load arg9 harg9 xs0 _ _)
      (w_load i arg3 harg3 x1 _ (by decide) _) (row_load arg4 harg4 x2 _ (by decide) _) (row_load arg5 harg5 x3 _ (by decide) _) _ x

end

end Cert.KernelIdeal.Own

end
-- ==== Proof.Own.Index.lean ====
module

public import proofs.«01_k».proof.Proof.Own.RunValue
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Where the windows' blocks lie

The grid's point `t` is the row block `t / 4` and the column block `t % 4`; a row block is half of one of the four batches. -/

theorem N_eq : cfg0.N = 32 := N_0
theorem lt32 (t : Fin cfg0.N) : t.val < 32 := lt_of_lt_of_eq t.isLt N_eq

/-- The column coordinate of point `t`. -/
theorem col_eq (t : Fin cfg0.N) : (grid0.coords t 1).val = t.val % 4 := by
  have e1 : (grid0.coords t 1).val = t.val / 1 % 4 := Pipeline.Grid.coords_val t 1 (by decide) rfl
  omega

/-- The block index of window 0. -/
theorem idx0 : ∀ t : Fin cfg0.N, win0_0.index t (0 : Fin 3) = t.val / 8 ∧ win0_0.index t (1 : Fin 3) = t.val / 4 % 2 ∧ win0_0.index t (2 : Fin 3) = 0 :=
  (by decide +kernel : ∀ t : Fin grid0.N, _)
/-- The block index of window 1. -/
theorem idx1 : ∀ t : Fin cfg0.N, win0_1.index t (0 : Fin 2) = 0 ∧ win0_1.index t (1 : Fin 2) = 0 :=
  (by decide +kernel : ∀ t : Fin grid0.N, _)
/-- The block index of window 2. -/
theorem idx2 : ∀ t : Fin cfg0.N, win0_2.index t (0 : Fin 2) = 0 ∧ win0_2.index t (1 : Fin 2) = t.val % 4 :=
  (by decide +kernel : ∀ t : Fin grid0.N, _)
/-- The block index of window 3. -/
theorem idx3 : ∀ t : Fin cfg0.N, win0_3.index t (0 : Fin 2) = 0 ∧ win0_3.index t (1 : Fin 2) = t.val % 4 :=
  (by decide +kernel : ∀ t : Fin grid0.N, _)
/-- The block index of window 4. -/
theorem idx4 : ∀ t : Fin cfg0.N, win0_4.index t (0 : Fin 3) = t.val / 8 ∧ win0_4.index t (1 : Fin 3) = t.val / 4 % 2 ∧ win0_4.index t (2 : Fin 3) = t.val % 4 :=
  (by decide +kernel : ∀ t : Fin grid0.N, _)
/-- The block index of window 5. -/
theorem idx5 : ∀ t : Fin cfg0.N, win0_5.index t (0 : Fin 3) = t.val / 8 ∧ win0_5.index t (1 : Fin 3) = t.val / 4 % 2 ∧ win0_5.index t (2 : Fin 3) = 0 :=
  (by decide +kernel : ∀ t : Fin grid0.N, _)
/-- The block index of window 6. -/
theorem idx6 : ∀ t : Fin cfg0.N, win0_6.index t (0 : Fin 2) = 0 ∧ win0_6.index t (1 : Fin 2) = t.val / 4 :=
  (by decide +kernel : ∀ t : Fin grid0.N, _)

/-- The index of window 0's array under an index of its block at point `t`. -/
theorem emb0 (t : Fin cfg0.N) (r : Fin 512) (k : Fin 1024) :
    ((cfg0.win 0).blk t).view.emb (ix3 0 r k : S1x512x1024.Idx) = (ix3 ⟨t.val / 8, by have := lt32 t; omega⟩ ⟨512 * (t.val / 4 % 2) + r.val, by omega⟩ k : S4x1024x1024.Idx) := by
  obtain ⟨e0, e1, e2⟩ := idx0 t
  funext a; apply Fin.ext
  match a with
  | ⟨0, _⟩ => show win0_0.index t (0 : Fin 3) * 1 + 1 * (0 : ℕ) = t.val / 8; omega
  | ⟨1, _⟩ => show win0_0.index t (1 : Fin 3) * 512 + 1 * r.val = 512 * (t.val / 4 % 2) + r.val; omega
  | ⟨2, _⟩ => show win0_0.index t (2 : Fin 3) * 1024 + 1 * k.val = k.val; omega
/-- The index of window 1's array under an index of its block at point `t`. -/
theorem emb1 (t : Fin cfg0.N) (r : Fin 9216) (k : Fin 1024) :
    ((cfg0.win 1).blk t).view.emb (ix2 r k : S9216x1024.Idx) = (ix2 r k : S9216x1024.Idx) := by
  obtain ⟨e0, e1⟩ := idx1 t
  funext a; apply Fin.ext
  match a with
  | ⟨0, _⟩ => show win0_1.index t (0 : Fin 2) * 9216 + 1 * r.val = r.val; omega
  | ⟨1, _⟩ => show win0_1.index t (1 : Fin 2) * 1024 + 1 * k.val = k.val; omega
/-- The index of window 2's array under an index of its block at point `t`. -/
theorem emb2 (t : Fin cfg0.N) (n : Fin 2304) :
    ((cfg0.win 2).blk t).view.emb (ix2 0 n : S1x2304.Idx) = (ix2 0 ⟨2304 * (t.val % 4) + n.val, by omega⟩ : S1x9216.Idx) := by
  obtain ⟨e0, e1⟩ := idx2 t
  funext a; apply Fin.ext
  match a with
  | ⟨0, _⟩ => show win0_2.index t (0 : Fin 2) * 1 + 1 * (0 : ℕ) = 0; omega
  | ⟨1, _⟩ => show win0_2.index t (1 : Fin 2) * 2304 + 1 * n.val = 2304 * (t.val % 4) + n.val; omega
/-- The index of window 3's array under an index of its block at point `t`. -/
theorem emb3 (t : Fin cfg0.N) (n : Fin 2304) :
    ((cfg0.win 3).blk t).view.emb (ix2 0 n : S1x2304.Idx) = (ix2 0 ⟨2304 * (t.val % 4) + n.val, by omega⟩ : S1x9216.Idx) := by
  obtain ⟨e0, e1⟩ := idx3 t
  funext a; apply Fin.ext
  match a with
  | ⟨0, _⟩ => show win0_3.index t (0 : Fin 2) * 1 + 1 * (0 : ℕ) = 0; omega
  | ⟨1, _⟩ => show win0_3.index t (1 : Fin 2) * 2304 + 1 * n.val = 2304 * (t.val % 4) + n.val; omega
/-- The index of window 4's array under an index of its block at point `t`. -/
theorem emb4 (t : Fin cfg0.N) (r : Fin 512) (n : Fin 2304) :
    ((cfg0.win 4).blk t).view.emb (ix3 0 r n : S1x512x2304.Idx) = (ix3 ⟨t.val / 8, by have := lt32 t; omega⟩ ⟨512 * (t.val / 4 % 2) + r.val, by omega⟩ ⟨2304 * (t.val % 4) + n.val, by omega⟩ : S4x1024x9216.Idx) := by
  obtain ⟨e0, e1, e2⟩ := idx4 t
  funext a; apply Fin.ext
  match a with
  | ⟨0, _⟩ => show win0_4.index t (0 : Fin 3) * 1 + 1 * (0 : ℕ) = t.val / 8; omega
  | ⟨1, _⟩ => show win0_4.index t (1 : Fin 3) * 512 + 1 * r.val = 512 * (t.val / 4 % 2) + r.val; omega
  | ⟨2, _⟩ => show win0_4.index t (2 : Fin 3) * 2304 + 1 * n.val = 2304 * (t.val % 4) + n.val; omega
/-- The index of window 5's array under an index of its block at point `t`. -/
theorem emb5 (t : Fin cfg0.N) (r : Fin 512) (k : Fin 1024) :
    ((cfg0.win 5).blk t).view.emb (ix3 0 r k : S1x512x1024.Idx) = (ix3 ⟨t.val / 8, by have := lt32 t; omega⟩ ⟨512 * (t.val / 4 % 2) + r.val, by omega⟩ k : S4x1024x1024.Idx) := by
  obtain ⟨e0, e1, e2⟩ := idx5 t
  funext a; apply Fin.ext
  match a with
  | ⟨0, _⟩ => show win0_5.index t (0 : Fin 3) * 1 + 1 * (0 : ℕ) = t.val / 8; omega
  | ⟨1, _⟩ => show win0_5.index t (1 : Fin 3) * 512 + 1 * r.val = 512 * (t.val / 4 % 2) + r.val; omega
  | ⟨2, _⟩ => show win0_5.index t (2 : Fin 3) * 1024 + 1 * k.val = k.val; omega
/-- The index of window 6's array under an index of its block at point `t`. -/
theorem emb6 (t : Fin cfg0.N) (r : Fin 512) :
    ((cfg0.win 6).blk t).view.emb (ix2 0 r : S1x512.Idx) = (ix2 0 ⟨512 * (t.val / 4) + r.val, by have := lt32 t; omega⟩ : S1x4096.Idx) := by
  obtain ⟨e0, e1⟩ := idx6 t
  funext a; apply Fin.ext
  match a with
  | ⟨0, _⟩ => show win0_6.index t (0 : Fin 2) * 1 + 1 * (0 : ℕ) = 0; omega
  | ⟨1, _⟩ => show win0_6.index t (1 : Fin 2) * 512 + 1 * r.val = 512 * (t.val / 4) + r.val; omega

/-- Window 0's block at point `t`, entry by entry. -/
theorem iblk0_apply (c : Dev nD) (t : Fin cfg0.N) (r : Fin 512) (k : Fin 1024) :
    (iblk m c 0 t : Vec F S1x512x1024 .bf16) (ix3 0 r k) = (V m c main_arg0 : Vec F S4x1024x1024 .bf16) (ix3 ⟨t.val / 8, by have := lt32 t; omega⟩ ⟨512 * (t.val / 4 % 2) + r.val, by omega⟩ k) := by
  exact congrArg (V m c main_arg0 : Vec F S4x1024x1024 .bf16) (emb0 t r k)

/-- Window 1's block at point `t`, entry by entry. -/
theorem iblk1_apply (c : Dev nD) (t : Fin cfg0.N) (r : Fin 9216) (k : Fin 1024) :
    (iblk m c 1 t : Vec F S9216x1024 .fp8e4m3) (ix2 r k) = (V m c main_arg1 : Vec F S9216x1024 .fp8e4m3) (ix2 r k) := by
  exact congrArg (V m c main_arg1 : Vec F S9216x1024 .fp8e4m3) (emb1 t r k)

/-- Window 2's block at point `t`, entry by entry. -/
theorem iblk2_apply (c : Dev nD) (t : Fin cfg0.N) (n : Fin 2304) :
    (iblk m c 2 t : Vec F S1x2304 .f32) (ix2 0 n) = (V m c main_v0 : Vec F S1x9216 .f32) (ix2 0 ⟨2304 * (t.val % 4) + n.val, by omega⟩) := by
  exact congrArg (V m c main_v0 : Vec F S1x9216 .f32) (emb2 t n)

/-- Window 3's block at point `t`, entry by entry. -/
theorem iblk3_apply (c : Dev nD) (t : Fin cfg0.N) (n : Fin 2304) :
    (iblk m c 3 t : Vec F S1x2304 .f32) (ix2 0 n) = (V m c main_v1 : Vec F S1x9216 .f32) (ix2 0 ⟨2304 * (t.val % 4) + n.val, by omega⟩) := by
  exact congrArg (V m c main_v1 : Vec F S1x9216 .f32) (emb3 t n)

/-- The block of rows does not move while the column block does. -/
theorem iblk0_prev (c : Dev nD) (t : Fin cfg0.N) (h : ¬t.val % 4 = 0) :
    (iblk m c 0 ⟨t.val - 1, by omega⟩ : Vec F S1x512x1024 .bf16) = iblk m c 0 t := by
  funext j
  idx_vars j
  obtain rfl : j0 = 0 := Subsingleton.elim _ _
  have e1 : (t.val - 1) / 8 = t.val / 8 := by omega
  have e2 : (t.val - 1) / 4 % 2 = t.val / 4 % 2 := by omega
  refine (iblk0_apply m c _ j1 j2).trans (Eq.trans (congrArg _ ?_) (iblk0_apply m c t j1 j2).symm)
  congr 1
  · exact Fin.ext e1
  · exact Fin.ext (by show 512 * ((t.val - 1) / 4 % 2) + _ = _; rw [e2])

end Cert.KernelIdeal.Own

end
-- ==== Proof.Own.Data.lean ====
module

public import proofs.«01_k».proof.Proof.Own.Index
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays' contents between the points -/

/-- The codes of the row block of point `t`. -/
def codesAt (c : Dev nD) (t : Fin cfg0.N) : Vec F S1x512x1024 .fp8e4m3 := codesBlk (iblk m c 0 t)
/-- Its scales as a column. -/
def scaleAt (c : Dev nD) (t : Fin cfg0.N) : Vec F S512x1 .f32 := scaleBlk (iblk m c 0 t)
/-- Its scales as a row. -/
def rowAt (c : Dev nD) (t : Fin cfg0.N) : Vec F S1x512 .f32 := scaleRow (iblk m c 0 t)
/-- The output block of point `t`. -/
def yAtPt (c : Dev nD) (t : Fin cfg0.N) : Vec F S1x512x2304 .bf16 :=
  yBlk (grid0.coords t 1) (codesAt m c t) (scaleAt m c t) (iblk m c 1 t) (iblk m c 2 t) (iblk m c 3 t)

/-- A point that does not quantise is in the row block of the point before. -/
theorem codesAt_prev (c : Dev nD) (t : Fin cfg0.N) (h : ¬t.val % 4 = 0) : codesAt m c ⟨t.val - 1, by omega⟩ = codesAt m c t :=
  congrArg codesBlk (iblk0_prev m c t h)
theorem scaleAt_prev (c : Dev nD) (t : Fin cfg0.N) (h : ¬t.val % 4 = 0) : scaleAt m c ⟨t.val - 1, by omega⟩ = scaleAt m c t :=
  congrArg scaleBlk (iblk0_prev m c t h)
theorem rowAt_prev (c : Dev nD) (t : Fin cfg0.N) (h : ¬t.val % 4 = 0) : rowAt m c ⟨t.val - 1, by omega⟩ = rowAt m c t :=
  congrArg scaleRow (iblk0_prev m c t h)

/-- The invariant before position `n`: after the first point the carried column holds the scales of the point before. -/
def PhiS (c : Dev nD) : (n : ℕ) → n ≤ cfg0.N → sProp 𝕄
  | 0, _ => Pipeline.ΦA spec0 c
  | n + 1, hn => iprop(iprop(owns (c : Thread nD τ) scM0_0 fullShare (scaleAt m c ⟨n, hn⟩)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare (scaleAt m c ⟨n, hn⟩)) ∗ (∃ r, prngReg c r)) := rfl
theorem PhiS_pos (c : Dev nD) (n : ℕ) (h : n ≤ cfg0.N) (hz : n ≠ 0) :
    PhiS m c n h = iprop(iprop(owns (c : Thread nD τ) scM0_0 fullShare (scaleAt m c ⟨n - 1, by omega⟩)) ∗ (∃ r, prngReg c r)) := by
  cases n with
  | zero => exact absurd rfl hz
  | succ n => rfl

/-- The proof data of the pipeline on core `c`: each input's buffer holds its block, the outputs' buffers the output block, the
    codes and the scales of the point's row block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => yAtPt m c t
    | ⟨5, _⟩ => codesAt m c t
    | ⟨6, _⟩ => rowAt m c t
  Φ t := PhiS m c t.val (Nat.le_of_lt_succ t.isLt)
  q _ := fullShare
  owed _ := 0

/-- The arrays are what the region finds. -/
theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-! What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = yAtPt m c t := by dsimp only [dats]
theorem after0_5 (c : Dev nD) (t : Fin cfg0.N) : (dats m 0 c).after 5 t = codesAt m c t := by dsimp only [dats]
theorem after0_6 (c : Dev nD) (t : Fin cfg0.N) : (dats m 0 c).after 6 t = rowAt m c t := by dsimp only [dats]

/-! What an input's buffer holds when the body runs. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- Output 5's contents stay through the points that do not store it. -/
theorem hcarry0_5 (c : Dev nD) : ∀ (t : Fin cfg0.N) (_ : t.val ≠ 0), cfg0.idle 5 (grid0.coords t) = true → cfg0.fresh 5 t.val = false →
    (dats m 0 c).after 5 t = (dats m 0 c).after 5 ⟨t.val - 1, by omega⟩ := by
  intro t _ hi _
  rw [after0_5, after0_5]
  by_cases h0 : t.val % 4 = 0
  · rw [liveAt0_5_A t ((hcond0_0 t).mpr h0)] at hi
    exact absurd hi Bool.false_ne_true
  · exact (codesAt_prev m c t h0).symm
/-- At a point that does not store output 5 its buffer holds what the row block's first point stored. -/
theorem before0_5_B (c : Dev nD) (t : Fin cfg0.N) (h0 : ¬t.val % 4 = 0) (d) : (dats m 0 c).before 5 t d = codesAt m c t := by
  rw [Dat.before_out_traj _ 5 rfl (fun _ _ => rfl) (hcarry0_5 m c) t.val t rfl d,
    if_neg (by rw [notFresh0_5_B t (fun h => h0 ((hcond0_0 t).mp h))]; exact Bool.false_ne_true), after0_5]
  exact codesAt_prev m c t h0
/-- There the body may hand back the buffer as it found it. -/
theorem leaves0_5_B (c : Dev nD) (t : Fin cfg0.N) (h0 : ¬t.val % 4 = 0) (d : (cfg0.win 5).block.Idx → Elt F (cfg0.win 5).elt) :
    owns (c : Thread nD τ) (ms0_5 t) fullShare (codesAt m c t) ⊢ ((dats m 0 c).leavesExact 5 t : sProp 𝕄) := by
  have hi := idleAt0_5_B t (fun h => h0 ((hcond0_0 t).mp h))
  by_cases hf : (cfg0.win 5).flush t = true
  · rw [show (dats m 0 c).leavesExact 5 t = owns (c : Thread nD τ) (ms0_5 t) fullShare ((dats m 0 c).after 5 t) from by
      unfold Dat.leavesExact; rw [hi, hf], after0_5]
  · rw [Bool.not_eq_true] at hf
    rw [(dats m 0 c).leavesExact_idle 5 t hi hf]
    iintro H; iexists d
    rw [before0_5_B m c t h0 d]
    iexact H

/-- Output 6's contents stay through the points that do not store it. -/
theorem hcarry0_6 (c : Dev nD) : ∀ (t : Fin cfg0.N) (_ : t.val ≠ 0), cfg0.idle 6 (grid0.coords t) = true → cfg0.fresh 6 t.val = false →
    (dats m 0 c).after 6 t = (dats m 0 c).after 6 ⟨t.val - 1, by omega⟩ := by
  intro t _ hi _
  rw [after0_6, after0_6]
  by_cases h0 : t.val % 4 = 0
  · rw [liveAt0_6_A t ((hcond0_0 t).mpr h0)] at hi
    exact absurd hi Bool.false_ne_true
  · exact (rowAt_prev m c t h0).symm
/-- At a point that does not store output 6 its buffer holds what the row block's first point stored. -/
theorem before0_6_B (c : Dev nD) (t : Fin cfg0.N) (h0 : ¬t.val % 4 = 0) (d) : (dats m 0 c).before 6 t d = rowAt m c t := by
  rw [Dat.before_out_traj _ 6 rfl (fun _ _ => rfl) (hcarry0_6 m c) t.val t rfl d,
    if_neg (by rw [notFresh0_6_B t (fun h => h0 ((hcond0_0 t).mp h))]; exact Bool.false_ne_true), after0_6]
  exact rowAt_prev m c t h0
/-- There the body may hand back the buffer as it found it. -/
theorem leaves0_6_B (c : Dev nD) (t : Fin cfg0.N) (h0 : ¬t.val % 4 = 0) (d : (cfg0.win 6).block.Idx → Elt F (cfg0.win 6).elt) :
    owns (c : Thread nD τ) (ms0_6 t) fullShare (rowAt m c t) ⊢ ((dats m 0 c).leavesExact 6 t : sProp 𝕄) := by
  have hi := idleAt0_6_B t (fun h => h0 ((hcond0_0 t).mp h))
  by_cases hf : (cfg0.win 6).flush t = true
  · rw [show (dats m 0 c).leavesExact 6 t = owns (c : Thread nD τ) (ms0_6 t) fullShare ((dats m 0 c).after 6 t) from by
      unfold Dat.leavesExact; rw [hi, hf], after0_6]
  · rw [Bool.not_eq_true] at hf
    rw [(dats m 0 c).leavesExact_idle 6 t hi hf]
    iintro H; iexists d
    rw [before0_6_B m c t h0 d]
    iexact H

end Cert.KernelIdeal.Own

end
-- ==== Proof.Own.Body.lean ====
module

public import proofs.«01_k».proof.Proof.Own.Data
public import Idealize.ShloMosaic.Lib.Claim
public import Idealize.ShloMosaic.Lib.Pipeline.FrameSuffix
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body at every point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

theorem leaves0_0 (c : Dev nD) (t : Fin cfg0.N) :
    ((dats m 0 c).leavesExact 0 t : sProp 𝕄) = owns (c : Thread nD τ) (ms0_0 t) fullShare (iblk m c 0 t) := by
  rw [show (dats m 0 c).leavesExact 0 t = owns (c : Thread nD τ) (ms0_0 t) fullShare ((dats m 0 c).after 0 t) from by
    unfold Dat.leavesExact; rw [liveAt0_0 t], after0_0]
theorem leaves0_1 (c : Dev nD) (t : Fin cfg0.N) :
    ((dats m 0 c).leavesExact 1 t : sProp 𝕄) = owns (c : Thread nD τ) (ms0_1 t) fullShare (iblk m c 1 t) := by
  rw [show (dats m 0 c).leavesExact 1 t = owns (c : Thread nD τ) (ms0_1 t) fullShare ((dats m 0 c).after 1 t) from by
    unfold Dat.leavesExact; rw [liveAt0_1 t], after0_1]
theorem leaves0_2 (c : Dev nD) (t : Fin cfg0.N) :
    ((dats m 0 c).leavesExact 2 t : sProp 𝕄) = owns (c : Thread nD τ) (ms0_2 t) fullShare (iblk m c 2 t) := by
  rw [show (dats m 0 c).leavesExact 2 t = owns (c : Thread nD τ) (ms0_2 t) fullShare ((dats m 0 c).after 2 t) from by
    unfold Dat.leavesExact; rw [liveAt0_2 t], after0_2]
theorem leaves0_3 (c : Dev nD) (t : Fin cfg0.N) :
    ((dats m 0 c).leavesExact 3 t : sProp 𝕄) = owns (c : Thread nD τ) (ms0_3 t) fullShare (iblk m c 3 t) := by
  rw [show (dats m 0 c).leavesExact 3 t = owns (c : Thread nD τ) (ms0_3 t) fullShare ((dats m 0 c).after 3 t) from by
    unfold Dat.leavesExact; rw [liveAt0_3 t], after0_3]
theorem leaves0_4 (c : Dev nD) (t : Fin cfg0.N) :
    ((dats m 0 c).leavesExact 4 t : sProp 𝕄) = owns (c : Thread nD τ) (ms0_4 t) fullShare (yAtPt m c t) := by
  rw [show (dats m 0 c).leavesExact 4 t = owns (c : Thread nD τ) (ms0_4 t) fullShare ((dats m 0 c).after 4 t) from by
    unfold Dat.leavesExact; rw [liveAt0_4 t], after0_4]
theorem leaves0_5_A (c : Dev nD) (t : Fin cfg0.N) (h0 : t.val % 4 = 0) :
    ((dats m 0 c).leavesExact 5 t : sProp 𝕄) = owns (c : Thread nD τ) (ms0_5 t) fullShare (codesAt m c t) := by
  rw [show (dats m 0 c).leavesExact 5 t = owns (c : Thread nD τ) (ms0_5 t) fullShare ((dats m 0 c).after 5 t) from by
    unfold Dat.leavesExact; rw [liveAt0_5_A t ((hcond0_0 t).mpr h0)], after0_5]
theorem leaves0_6_A (c : Dev nD) (t : Fin cfg0.N) (h0 : t.val % 4 = 0) :
    ((dats m 0 c).leavesExact 6 t : sProp 𝕄) = owns (c : Thread nD τ) (ms0_6 t) fullShare (rowAt m c t) := by
  rw [show (dats m 0 c).leavesExact 6 t = owns (c : Thread nD τ) (ms0_6 t) fullShare ((dats m 0 c).after 6 t) from by
    unfold Dat.leavesExact; rw [liveAt0_6_A t ((hcond0_0 t).mpr h0)], after0_6]

set_option maxHeartbeats 6400000 in
/-- The body at any point takes what it is called with to what it returns: at the first column block it quantises the row block,
    at the others it reads the codes and the scales the first one left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4]
  by_cases h0 : t.val % 4 = 0
  · rw [leaves0_5_A m c t h0, leaves0_6_A m c t h0]
    by_cases hz : t.val = 0
    · rw [PhiS_castSucc m c t, PhiS_zero m c _ _ hz, PhiA0_eq]
      · iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ ((hcond0_0 t).mpr h0) (iblk m c 0 t) (iblk m c 1 t) (iblk m c 2 t) (iblk m c 3 t)).2.2.2.2 Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [H6]; · iexists _; iexact H6
        isplitl [HS0]; · iexact HS0
        iintro ⟨H0, H1, H2, H3, ⟨%e4, H4⟩, ⟨%e5, H5⟩, ⟨%e6, H6⟩, ⟨%es0, HS0⟩⟩
        isplitl [HS0 Hg]
        · isplitl [HS0]
          · unfold owns; iexists _; isplitr
            swap; · iexact HS0
            ipureintro; exact A_col c _ _ _ _ _ _ _ _ _ _ _ _ _ _ _ _ _ _ _ _ _ _ _
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact A_y c _ _ _ _ _ _ _ _ _ _ _ _ _ _ _ _ _ _ _ _ _ _ _
        isplitl [H5]
        · unfold owns; iexists _; isplitr
          swap; · iexact H5
          ipureintro; exact A_codes c _ _ _ _ _ _ _ _ _ _ _ _ _ _ _ _ _ _ _ _ _ _ _
        unfold owns; iexists _; isplitr
        swap; · iexact H6
        ipureintro; exact A_row c _ _ _ _ _ _ _ _ _ _ _ _ _ _ _ _ _ _ _ _ _ _ _
    · rw [PhiS_castSucc m c t, PhiS_pos m c _ _ hz]
      · iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ ((hcond0_0 t).mpr h0) (iblk m c 0 t) (iblk m c 1 t) (iblk m c 2 t) (iblk m c 3 t)).2.2.2.2 Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [H6]; · iexists _; iexact H6
        isplitl [HS0]; · iexists _; iexact HS0
        iintro ⟨H0, H1, H2, H3, ⟨%e4, H4⟩, ⟨%e5, H5⟩, ⟨%e6, H6⟩, ⟨%es0, HS0⟩⟩
        isplitl [HS0 Hg]
        · isplitl [HS0]
          · unfold owns; iexists _; isplitr
            swap; · iexact HS0
            ipureintro; exact A_col c _ _ _ _ _ _ _ _ _ _ _ _ _ _ _ _ _ _ _ _ _ _ _
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact A_y c _ _ _ _ _ _ _ _ _ _ _ _ _ _ _ _ _ _ _ _ _ _ _
        isplitl [H5]
        · unfold owns; iexists _; isplitr
          swap; · iexact H5
          ipureintro; exact A_codes c _ _ _ _ _ _ _ _ _ _ _ _ _ _ _ _ _ _ _ _ _ _ _
        unfold owns; iexists _; isplitr
        swap; · iexact H6
        ipureintro; exact A_row c _ _ _ _ _ _ _ _ _ _ _ _ _ _ _ _ _ _ _ _ _ _ _
  · have hz : t.val ≠ 0 := fun h => h0 (by rw [h])
    rw [PhiS_castSucc m c t, PhiS_pos m c _ _ hz]
    simp only [before0_5_B m c t h0, before0_6_B m c t h0, scaleAt_prev m c t h0]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
    iapply ((kernelRun0_B c (grid0.coords t) _ _ _ _ _ _ _ _ _ _ _ _ _ (hstage0_6 ((cfg0.slots t 6).cast nbuf0_6)) _ _ (fun h => h0 ((hcond0_0 t).mp h)) (iblk m c 0 t) (iblk m c 1 t) (iblk m c 2 t) (iblk m c 3 t) (codesAt m c t) (scaleAt m c t)).2 Set.univ _)
    isplitl [H0]; · iexact H0
    isplitl [H1]; · iexact H1
    isplitl [H2]; · iexact H2
    isplitl [H3]; · iexact H3
    isplitl [H4]; · iexists _; iexact H4
    isplitl [H5]; · iexact H5
    isplitl [HS0]; · iexact HS0
    iintro ⟨H0, H1, H2, H3, ⟨%e4, H4⟩, H5, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact B_y c _ _ _ _ _ _ _ _ _ _ _ _ _ _ _ _ _ _ _ _ _ _ _ _ _
    isplitl [H5]
    · iapply (leaves0_5_B m c t h0 d5); iexact H5
    iapply (leaves0_6_B m c t h0 d6); iexact H6

/-- The body table's row at point `t`. -/
theorem defs₀_row (t : Fin cfg0.N) :
    defs₀ (F := F) .tc cfg0.body (cfg0.bodyArgs t (cfg0.slots t)) = bodyAt0 t := by
  unfold defs₀; rw [Defs.onTc_tc]

/-- The body meets its obligation at every point. -/
theorem body_obligation (c : Dev nD) : BodyObligation (dats m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the launch's back. -/
theorem hout (c : Dev nD) : (dats m 0 c).Φ (Fin.last cfg0.N) ⊢ Pipeline.ΦA spec0 c := by
  have ht : (Fin.last cfg0.N).val ≠ 0 := by rw [Fin.val_last, N_eq]; decide
  rw [show (dats m 0 c).Φ (Fin.last cfg0.N) = PhiS m c (Fin.last cfg0.N).val (Nat.le_of_lt_succ (Fin.last cfg0.N).isLt) from rfl, PhiS_pos m c _ _ ht, PhiA0_eq]
  iintro ⟨HS0, Hg⟩
  isplitl [HS0]
  · iexists _; iexact HS0
  iexact Hg

/-! ## The run -/

set_option backward.isDefEq.respectTransparency.types false in
/-- The whole program runs to the arrays the proof data state, with the host line after the region applied, and every counter at
    zero. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The program ends with its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.KernelIdeal.Own

end
-- ==== Proof.Own.Same.lean ====
module

public import proofs.«01_k».proof.Defs
public import proofs.«01_k».proof.Proof.Gen.Kernel
public import proofs.«01_k».proof.Proof.Gen.KernelIdeal

@[expose] public section

set_option maxRecDepth 16384

noncomputable section

namespace Cert.Same

open Idealize.ShloMosaic Idealize.SL.Sem

/-! # The kernel's two printed programs are one program

No operation was rewritten between them, so what is proved of the second for arbitrary floats holds of the first. -/

variable {F : FTy → Type} [FloatOps F]

theorem main_eq : Cert.Kernel.main (F := F) = Cert.KernelIdeal.main (F := F) := rfl

theorem defs₀_eq : Cert.Kernel.defs₀ (F := F) = Cert.KernelIdeal.defs₀ (F := F) := by
  unfold Cert.Kernel.defs₀ Cert.KernelIdeal.defs₀
  refine congrArg Defs.onTc ?_
  funext l
  match l with
  | ⟨0, _⟩ => rfl
  | ⟨_ + 1, h⟩ => exact absurd h (Nat.not_lt.2 (Nat.le_add_left _ _))

theorem defs_eq : Cert.Kernel.defs (F := F) = Cert.KernelIdeal.defs (F := F) := by
  show Pipeline.defs Cert.KernelIdeal.pcfgs Cert.Kernel.defs₀ = Pipeline.defs Cert.KernelIdeal.pcfgs Cert.KernelIdeal.defs₀
  exact congrArg (Pipeline.defs Cert.KernelIdeal.pcfgs) defs₀_eq

/-- A frame proved of the second program for the machine's floats is the first's. -/
theorem quiescent_of (h : ∀ (m : (ℓ : Loc Cert.KernelIdeal.nD Cert.KernelIdeal.τ Cert.KernelIdeal.sig) → Buf (Elt Bits) ℓ)
    (g : Dev Cert.KernelIdeal.nD → PrngReg),
    θ_run (Cert.KernelIdeal.defs (F := Bits)) (onTc (τ := Cert.KernelIdeal.τ) (Cert.KernelIdeal.main (F := Bits))) ⟨m, fun _ => 0, g⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)) : Cert.quiescent_Kernel := by
  intro m g _
  rw [defs_eq]
  exact h m g

end Cert.Same

end
-- ==== Proof.Own.Exponent.lean ====
module

public import Idealize.ShloMosaic.PureOps.Ideal
public import Idealize.ShloMosaic.PureOps.Ideal.Laws
public import Mathlib.Algebra.Order.Archimedean.Basic

@[expose] public section

noncomputable section

namespace Cert.Exponent

open Idealize.ShloMosaic

/-! # The power-of-two scale, found by a search and by a logarithm

The kernel finds the exponent field of a row's `t` by trying the field's eight bits from the top, and builds the scale `2^e` by
shifting `e + 127` into a float's exponent field. The reference takes `e = ⌊log t / log 2⌋ + 1` and the scale `exp2 e`. For a row
of zeros both take `e = 0`. Where `2^-126 ≤ t < 2^126` the two exponents are the same, and so are `2^e` and `2^-e`. -/

/-- The float whose exponent field is `e + 127` and whose other bits are zero. -/
def pow2 (e : BitVec 32) : EReal := Ideal.ofBits .f32 (IntOp.shli .vector (IntOp.addi e 127#32) 23#32)

/-- One step of the search: set the bit `b` of `f` if the power of two with that field does not exceed `t`. -/
def step (t : EReal) (b f : BitVec 32) : BitVec 32 :=
  Scalar.select (Ideal.cmp .ole (pow2 (IntOp.subi (IntOp.ori f b) 127#32)) t) (IntOp.ori f b) f

/-- The search over the field's eight bits. -/
def search (t : EReal) : BitVec 32 :=
  step t 1#32 (step t 2#32 (step t 4#32 (step t 8#32 (step t 16#32 (step t 32#32 (step t 64#32 (step t 128#32 0#32)))))))

/-- The kernel's exponent from the field `f`: zero for an empty field, a full one or a row of zeros. -/
def kerExp (a : EReal) (f : BitVec 32) : BitVec 32 :=
  Scalar.select (IntOp.ori (IntOp.ori (IntOp.cmpi .eq f 0#32) (IntOp.cmpi .eq f 255#32)) (Ideal.cmp .oeq a (Ideal.ofBits .f32 0x00000000#32)))
    0#32 (IntOp.subi f 126#32)

/-- The reference's exponent. -/
def refExp (a t : EReal) : EReal :=
  Scalar.select (Ideal.cmp .oeq a (Ideal.ofBits .f32 0x00000000#32)) (Ideal.ofBits .f32 0x00000000#32)
    (Ideal.liftRound Int.floor (Ideal.div (Ideal.log t) (Ideal.log (Ideal.ofBits .f32 0x40000000#32))) + Ideal.ofBits .f32 0x3F800000#32)

/-! ## The floats with an empty fraction -/

theorem field_bits : ∀ n : Fin 256,
    ((BitVec.ofNat 32 n.val <<< 23#32).extractLsb' 31 1 == 1#1) = false
    ∧ ((BitVec.ofNat 32 n.val <<< 23#32).extractLsb' 23 8).toNat = n.val
    ∧ ((BitVec.ofNat 32 n.val <<< 23#32).extractLsb' 0 23).toNat = 0 := by decide +kernel

/-- The float with exponent field `n` and an empty fraction is `2^(n - 127)`. -/
theorem ofBits_field (n : ℕ) (h0 : 0 < n) (h1 : n < 255) :
    Ideal.ofBits .f32 (BitVec.ofNat 32 n <<< 23#32) = (((2 : ℝ) ^ ((n : ℤ) - 127) : ℝ) : EReal) := by
  obtain ⟨hs, he, hf⟩ := field_bits ⟨n, by omega⟩
  simp only at hs he hf
  have e1 : ¬(n = 2 ^ 8 - 1) := by omega
  have e2 : ¬(n = 0) := by omega
  show Ideal.ieee 8 23 (BitVec.ofNat 32 n <<< 23#32) = _
  unfold Ideal.ieee
  simp only [show 8 + 23 = 31 from rfl, hs, he, hf]
  rw [if_neg e1, if_neg e2]
  norm_num
  rw [show (8388608 : ℝ) = (2 : ℝ) ^ (23 : ℤ) by norm_num, ← EReal.coe_mul, ← zpow_add₀ (by norm_num : (2 : ℝ) ≠ 0)]
  exact congrArg (fun z : ℤ => (((2 : ℝ) ^ z : ℝ) : EReal)) (by omega)

/-- The full field is an infinity. -/
theorem ofBits_full : Ideal.ofBits .f32 (BitVec.ofNat 32 255 <<< 23#32) = ⊤ := by
  obtain ⟨hs, he, hf⟩ := field_bits ⟨255, by omega⟩
  simp only at hs he hf
  show Ideal.ieee 8 23 (BitVec.ofNat 32 255 <<< 23#32) = _
  unfold Ideal.ieee
  simp only [show 8 + 23 = 31 from rfl, hs, he, hf]
  rw [if_pos (by norm_num)]
  norm_num

theorem shl_eq (x : BitVec 32) : IntOp.shli .vector x 23#32 = x <<< 23#32 := by
  unfold IntOp.shli; rw [if_pos (by decide)]

/-- `pow2` of the exponent whose field is `n`. -/
theorem pow2_of (e : BitVec 32) (n : ℕ) (he : e + 127#32 = BitVec.ofNat 32 n) (h0 : 0 < n) (h1 : n < 255) :
    pow2 e = (((2 : ℝ) ^ ((n : ℤ) - 127) : ℝ) : EReal) := by
  unfold pow2 IntOp.addi
  rw [he, shl_eq, ofBits_field n h0 h1]

theorem pow2_zero : pow2 0#32 = 1 := by
  rw [pow2_of 0#32 127 (by decide) (by decide) (by decide)]; norm_num

/-! ## The search -/

/-- A real between `2^-126` and `2^126` lies between two neighbouring powers of two. -/
theorem field_of (r : ℝ) (h0 : (2 : ℝ) ^ (-126 : ℤ) ≤ r) (h1 : r < (2 : ℝ) ^ (126 : ℤ)) :
    ∃ N : ℕ, 1 ≤ N ∧ N ≤ 252 ∧ (2 : ℝ) ^ ((N : ℤ) - 127) ≤ r ∧ r < (2 : ℝ) ^ ((N : ℤ) - 126)
      ∧ ⌊Real.log r / Real.log 2⌋ = (N : ℤ) - 127 := by
  have hr : 0 < r := lt_of_lt_of_le (by positivity) h0
  obtain ⟨z, lo, hi⟩ := exists_mem_Ico_zpow hr (by norm_num : (1 : ℝ) < 2)
  have l2 : 0 < Real.log 2 := Real.log_pos (by norm_num)
  have hf : ⌊Real.log r / Real.log 2⌋ = z := by
    rw [Int.floor_eq_iff, le_div_iff₀ l2, div_lt_iff₀ l2]
    constructor
    · have := Real.log_le_log (by positivity) lo
      rwa [Real.log_zpow] at this
    · have := Real.log_lt_log hr hi
      rw [Real.log_zpow] at this
      push_cast at this
      exact this
  have b0 : -126 < z + 1 := (zpow_lt_zpow_iff_right₀ (by norm_num : (1 : ℝ) < 2)).mp (lt_of_le_of_lt h0 hi)
  have b1 : z < 126 := (zpow_lt_zpow_iff_right₀ (by norm_num : (1 : ℝ) < 2)).mp (lt_of_le_of_lt lo h1)
  obtain ⟨N, hN⟩ := Int.eq_ofNat_of_zero_le (show 0 ≤ z + 127 by omega)
  have e : z = (N : ℤ) - 127 := by omega
  refine ⟨N, by omega, by omega, by rw [← e]; exact lo, ?_, by rw [hf, e]⟩
  rw [show (N : ℤ) - 126 = z + 1 by omega]; exact hi

/-- The same step with the comparison made between fields. -/
def natStep (N : ℕ) (b f : BitVec 32) : BitVec 32 := if (f ||| b).toNat ≤ N then f ||| b else f

/-- Comparing the power of two with field `v` against `r` is comparing the fields. -/
theorem pow2_le_iff (r : ℝ) (N : ℕ) (hN : N ≤ 252) (lo : (2 : ℝ) ^ ((N : ℤ) - 127) ≤ r) (hi : r < (2 : ℝ) ^ ((N : ℤ) - 126))
    (v : BitVec 32) (v0 : 0 < v.toNat) (v1 : v.toNat < 256) : pow2 (v - 127#32) ≤ (r : EReal) ↔ v.toNat ≤ N := by
  have hv : v - 127#32 + 127#32 = BitVec.ofNat 32 v.toNat := by rw [BitVec.sub_add_cancel, BitVec.ofNat_toNat, BitVec.setWidth_eq]
  by_cases h : v.toNat = 255
  · have : pow2 (v - 127#32) = ⊤ := by
      unfold pow2 IntOp.addi; rw [hv, shl_eq, h, ofBits_full]
    rw [this]
    constructor
    · intro h'; exact absurd (top_le_iff.mp h') (EReal.coe_ne_top r)
    · intro h'; omega
  · rw [pow2_of _ v.toNat hv v0 (by omega), EReal.coe_le_coe_iff]
    constructor
    · intro h'
      have := (zpow_lt_zpow_iff_right₀ (by norm_num : (1 : ℝ) < 2)).mp (lt_of_le_of_lt h' hi)
      omega
    · intro h'
      exact le_trans ((zpow_le_zpow_iff_right₀ (by norm_num : (1 : ℝ) < 2)).mpr (by omega)) lo

theorem or_bounds (f b : BitVec 32) (hf : f.toNat < 256) (b0 : 0 < b.toNat) (b1 : b.toNat < 256) :
    0 < (f ||| b).toNat ∧ (f ||| b).toNat < 256 := by
  rw [BitVec.toNat_or]
  exact ⟨lt_of_lt_of_le b0 Nat.right_le_or, Nat.or_lt_two_pow (n := 8) hf b1⟩

theorem step_eq (r : ℝ) (N : ℕ) (hN : N ≤ 252) (lo : (2 : ℝ) ^ ((N : ℤ) - 127) ≤ r) (hi : r < (2 : ℝ) ^ ((N : ℤ) - 126))
    (b f g : BitVec 32) (hfg : f = g ∧ g.toNat < 256) (b0 : 0 < b.toNat) (b1 : b.toNat < 256) :
    step r b f = natStep N b g ∧ (natStep N b g).toNat < 256 := by
  obtain ⟨rfl, hf⟩ := hfg
  obtain ⟨v0, v1⟩ := or_bounds f b hf b0 b1
  have h := pow2_le_iff r N hN lo hi (f ||| b) v0 v1
  unfold step natStep IntOp.subi IntOp.ori Ideal.cmp Scalar.select
  simp only [h]
  by_cases hc : (f ||| b).toNat ≤ N
  · rw [if_pos hc, decide_eq_true hc]
    exact ⟨rfl, v1⟩
  · rw [if_neg hc, decide_eq_false hc]
    exact ⟨rfl, hf⟩

theorem natSearch : ∀ N : Fin 256,
    natStep N.val 1#32 (natStep N.val 2#32 (natStep N.val 4#32 (natStep N.val 8#32 (natStep N.val 16#32 (natStep N.val 32#32
      (natStep N.val 64#32 (natStep N.val 128#32 0#32))))))) = BitVec.ofNat 32 N.val := by decide +kernel

/-- The search finds the field. -/
theorem search_eq (r : ℝ) (N : ℕ) (hN : N ≤ 252) (lo : (2 : ℝ) ^ ((N : ℤ) - 127) ≤ r) (hi : r < (2 : ℝ) ^ ((N : ℤ) - 126)) :
    search r = BitVec.ofNat 32 N := by
  have s := fun b f g hfg b0 b1 => step_eq r N hN lo hi b f g hfg b0 b1
  have h := s 1#32 _ _ (s 2#32 _ _ (s 4#32 _ _ (s 8#32 _ _ (s 16#32 _ _ (s 32#32 _ _ (s 64#32 _ _ (s 128#32 0#32 0#32
    ⟨rfl, by decide⟩ (by decide) (by decide)) (by decide) (by decide)) (by decide) (by decide)) (by decide) (by decide))
    (by decide) (by decide)) (by decide) (by decide)) (by decide) (by decide)) (by decide) (by decide)
  exact h.1.trans (natSearch ⟨N, by omega⟩)

/-! ## The two exponents -/

theorem ofBits_two : Ideal.ofBits .f32 0x40000000#32 = ((2 : ℝ) : EReal) := by
  have := ofBits_field 128 (by decide) (by decide)
  norm_num at this
  exact this

theorem ofBits_one : Ideal.ofBits .f32 0x3F800000#32 = ((1 : ℝ) : EReal) := by
  have := ofBits_field 127 (by decide) (by decide)
  norm_num at this
  exact this

theorem ofBits_zero : Ideal.ofBits .f32 0x00000000#32 = 0 := Ideal.ofBits_zero_f32

theorem ofBits_lo : Ideal.ofBits .f32 0x00800000#32 = (((2 : ℝ) ^ (-126 : ℤ) : ℝ) : EReal) :=
  (ofBits_field 1 (by decide) (by decide)).trans (by norm_num)

theorem ofBits_hi : Ideal.ofBits .f32 0x7E800000#32 = (((2 : ℝ) ^ (126 : ℤ) : ℝ) : EReal) :=
  (ofBits_field 253 (by decide) (by decide)).trans (by norm_num)

theorem exp2_int (z : ℤ) : Ideal.exp2 (((z : ℝ) : ℝ) : EReal) = (((2 : ℝ) ^ z : ℝ) : EReal) := by
  show ((Real.rpow 2 (z : ℝ) : ℝ) : EReal) = _
  exact congrArg _ (Real.rpow_intCast 2 z)

theorem cmp_oeq_pos {x y : EReal} (h : x = y) : Ideal.cmp .oeq x y = 1#1 := by unfold Ideal.cmp; simp [h]
theorem cmp_oeq_neg {x y : EReal} (h : x ≠ y) : Ideal.cmp .oeq x y = 0#1 := by unfold Ideal.cmp; simp [h]

/-- A row of zeros has scale 1 in both. -/
theorem scale_of_zero (t : EReal) : pow2 (kerExp 0 (search t)) = Ideal.exp2 (refExp 0 t)
    ∧ pow2 (IntOp.subi 0#32 (kerExp 0 (search t))) = Ideal.exp2 (Ideal.ofBits .f32 0x00000000#32 - refExp 0 t) := by
  have hk : kerExp 0 (search t) = 0#32 := by
    unfold kerExp
    rw [cmp_oeq_pos ofBits_zero.symm]
    unfold Scalar.select IntOp.ori
    rw [if_pos]
    exact (by decide : ∀ b : BitVec 1, b ||| 1#1 = 1) _
  have hr : refExp 0 t = 0 := by
    unfold refExp
    rw [cmp_oeq_pos ofBits_zero.symm]
    exact ofBits_zero
  have e0 : Ideal.exp2 0 = 1 := by
    have := exp2_int 0
    simpa using this
  rw [hk, hr, ofBits_zero, sub_zero, e0]
  exact ⟨pow2_zero, pow2_zero⟩

/-- In the range both exponents are `N - 126` for the field `N` of `t`. -/
theorem scale_of_range (a t : EReal) (ha : a ≠ 0) (h0 : Ideal.ofBits .f32 0x00800000#32 ≤ t) (h1 : t < Ideal.ofBits .f32 0x7E800000#32) :
    pow2 (kerExp a (search t)) = Ideal.exp2 (refExp a t)
    ∧ pow2 (IntOp.subi 0#32 (kerExp a (search t))) = Ideal.exp2 (Ideal.ofBits .f32 0x00000000#32 - refExp a t) := by
  rw [ofBits_lo] at h0
  rw [ofBits_hi] at h1
  induction t with
  | bot => exact absurd (le_bot_iff.mp h0) (EReal.coe_ne_bot _)
  | top => exact absurd h1 (not_lt.mpr le_top)
  | coe r =>
    rw [EReal.coe_le_coe_iff] at h0
    rw [EReal.coe_lt_coe_iff] at h1
    have hr : 0 < r := lt_of_lt_of_le (by positivity) h0
    obtain ⟨N, N0, N1, lo, hi, hfl⟩ := field_of r h0 h1
    have hk : kerExp a (search r) = BitVec.ofNat 32 N - 126#32 := by
      rw [search_eq r N N1 lo hi]
      unfold kerExp
      rw [cmp_oeq_neg (by rw [ofBits_zero]; exact ha)]
      have c0 : IntOp.cmpi .eq (BitVec.ofNat 32 N) 0#32 = 0#1 := by
        have : BitVec.ofNat 32 N ≠ 0#32 := fun h => by
          have := congrArg BitVec.toNat h
          simp only [BitVec.toNat_ofNat] at this
          omega
        unfold IntOp.cmpi; dsimp only; rw [beq_eq_false_iff_ne.mpr this]; rfl
      have c1 : IntOp.cmpi .eq (BitVec.ofNat 32 N) 255#32 = 0#1 := by
        have : BitVec.ofNat 32 N ≠ 255#32 := fun h => by
          have := congrArg BitVec.toNat h
          simp only [BitVec.toNat_ofNat] at this
          omega
        unfold IntOp.cmpi; dsimp only; rw [beq_eq_false_iff_ne.mpr this]; rfl
      rw [c0, c1]
      rfl
    have hlog2 : Ideal.log ((2 : ℝ) : EReal) = ((Real.log 2 : ℝ) : EReal) := by
      show (if (2 : ℝ) ≤ 0 then (⊥ : EReal) else (Real.log 2 : EReal)) = _
      rw [if_neg (by norm_num)]
    have hlogr : Ideal.log (r : EReal) = ((Real.log r : ℝ) : EReal) := by
      show (if r ≤ 0 then (⊥ : EReal) else (Real.log r : EReal)) = _
      rw [if_neg (by linarith)]
    have hne : ((Real.log 2 : ℝ) : EReal) ≠ 0 := by
      have : Real.log 2 ≠ 0 := (Real.log_pos (by norm_num)).ne'
      exact_mod_cast this
    have hdiv : Ideal.div ((Real.log r : ℝ) : EReal) ((Real.log 2 : ℝ) : EReal) = ((Real.log r / Real.log 2 : ℝ) : EReal) := by
      unfold Ideal.div
      rw [if_neg hne, ← EReal.coe_inv, ← EReal.coe_mul, div_eq_mul_inv]
    have hre : refExp a r = ((((N : ℤ) - 126 : ℤ) : ℝ) : EReal) := by
      unfold refExp
      rw [cmp_oeq_neg (by rw [ofBits_zero]; exact ha), ofBits_two, ofBits_one, hlog2, hlogr, hdiv]
      show ((⌊Real.log r / Real.log 2⌋ : ℝ) : EReal) + ((1 : ℝ) : EReal) = _
      rw [hfl, ← EReal.coe_add]
      congr 1; push_cast; ring
    rw [hk, hre, ofBits_zero, zero_sub, ← EReal.coe_neg, ← Int.cast_neg, exp2_int, exp2_int]
    constructor
    · rw [pow2_of _ (N + 1) ?_ (by omega) (by omega)]
      · congr 2; push_cast; ring
      · apply BitVec.eq_of_toNat_eq
        simp only [BitVec.toNat_add, BitVec.toNat_sub, BitVec.toNat_ofNat]
        omega
    · rw [pow2_of _ (253 - N) ?_ (by omega) (by omega)]
      · congr 2; push_cast [Nat.cast_sub (show N ≤ 253 by omega)]; ring
      · unfold IntOp.subi
        apply BitVec.eq_of_toNat_eq
        simp only [BitVec.toNat_add, BitVec.toNat_sub, BitVec.toNat_ofNat]
        omega

/-- The kernel's two scale factors are the reference's, for a row of zeros or a `t` in the range. -/
theorem scale_eq (a t : EReal) (h : a = 0 ∨ (Ideal.ofBits .f32 0x00800000#32 ≤ t ∧ t < Ideal.ofBits .f32 0x7E800000#32)) :
    pow2 (kerExp a (search t)) = Ideal.exp2 (refExp a t)
    ∧ pow2 (IntOp.subi 0#32 (kerExp a (search t))) = Ideal.exp2 (Ideal.ofBits .f32 0x00000000#32 - refExp a t) := by
  by_cases ha : a = 0
  · subst ha; exact scale_of_zero t
  · rcases h with h | ⟨h0, h1⟩
    · exact absurd h ha
    · exact scale_of_range a t ha h0 h1

end Cert.Exponent

end
-- ==== Proof.Own.Rows.lean ====
/- One row of `x`, at any float instance: the exponent search of the kernel, the exponent of the reference, the scale and the
   codes each of them makes. The two programs' vectors are read here entry by entry (KernelRows, RefRows), and at the ideal
   values the two agree on every row in range (Exponent). -/
module

public import proofs.«01_k».proof.Proof.Own.Exponent

@[expose] public section

noncomputable section

namespace Cert.Rows

open Idealize.ShloMosaic Cert.Exponent

section
variable {F : FTy → Type} [FloatOps F]

/-- The float with exponent field `e + 127` and no fraction. -/
def pow2F (e : BitVec 32) : F .f32 := FloatOps.ofBits .f32 (IntOp.shli .vector (IntOp.addi e 127#32) 23#32)
/-- One step of the search: the bit `b` of the field is set when the float so reached is at most `t`. -/
def stepF (t : F .f32) (b f : BitVec 32) : BitVec 32 :=
  Scalar.select (FloatOps.cmpf .ole (pow2F (F := F) (IntOp.subi (IntOp.ori f b) 127#32)) t) (IntOp.ori f b) f
/-- The kernel's exponent of a row: the field less 126, and zero for the special fields and a row of zeros. -/
def kerExpF (a : F .f32) (f : BitVec 32) : BitVec 32 :=
  Scalar.select (IntOp.ori (IntOp.ori (IntOp.cmpi .eq f 0#32) (IntOp.cmpi .eq f 255#32)) (FloatOps.cmpf .oeq a (FloatOps.ofBits .f32 0x00000000#32)))
    0#32 (IntOp.subi f 126#32)
/-- The reference's exponent of a row. -/
def refExpF (a t : F .f32) : F .f32 :=
  Scalar.select (FloatOps.cmpf .oeq a (FloatOps.ofBits .f32 0x00000000#32)) (FloatOps.ofBits .f32 0x00000000#32)
    (FloatOps.addf (FloatOps.floor (FloatOps.divf (FloatOps.log t) (FloatOps.log (FloatOps.ofBits .f32 0x40000000#32)))) (FloatOps.ofBits .f32 0x3F800000#32))
/-- An entry scaled and held within ±448. -/
def clipF (v s : F .f32) : F .f32 :=
  FloatOps.minimumf (FloatOps.ofBits .f32 0x43E00000#32) (FloatOps.maximumf (FloatOps.ofBits .f32 0xC3E00000#32) (FloatOps.mulf v s))

end

/-! ## The same at the ideal values -/

theorem pow2F_ideal (e : BitVec 32) : (pow2F (F := Ideal) e : EReal) = pow2 e := rfl
theorem stepF_ideal (t : EReal) (b f : BitVec 32) : stepF (F := Ideal) t b f = step t b f := rfl
theorem kerExpF_ideal (a : EReal) (f : BitVec 32) : kerExpF (F := Ideal) a f = kerExp a f := rfl
theorem refExpF_ideal (a t : EReal) : (refExpF (F := Ideal) a t : EReal) = refExp a t := rfl
theorem exp2_ideal (a : EReal) : (FloatOps.exp2 (F := Ideal) (φ := .f32) a : EReal) = Ideal.exp2 a := rfl

theorem subf_ideal (a b : EReal) : (FloatOps.subf (F := Ideal) (φ := .f32) a b : EReal) = a - b := rfl
theorem mulf_ideal (a b : EReal) : (FloatOps.mulf (F := Ideal) (φ := .f32) a b : EReal) = a * b := rfl
theorem ofBits_ideal (b : BitVec 32) : (FloatOps.ofBits (F := Ideal) .f32 b : EReal) = Ideal.ofBits .f32 b := rfl

/-- The greatest magnitude of a row. -/
def rowMax (f : Fin 1024 → EReal) : EReal :=
  Finset.fold max (Ideal.ofBits .f32 0xFF800000#32) (fun k => (FloatOps.absf (F := Ideal) (φ := .f32) (f k) : EReal)) Finset.univ
/-- That magnitude over 448. -/
def rowT (f : Fin 1024 → EReal) : EReal := rowMax f * Ideal.ofBits .f32 0x3B124925#32
/-- The exponent of a row, as the reference computes it. -/
def rowExp (f : Fin 1024 → EReal) : EReal := refExp (rowMax f) (rowT f)
/-- The scale of a row. -/
def rowScale (f : Fin 1024 → EReal) : EReal := Ideal.exp2 (rowExp f)
/-- The code of an entry of a row. -/
def rowCode (f : Fin 1024 → EReal) (v : EReal) : EReal :=
  clipF (F := Ideal) v (Ideal.exp2 (Ideal.ofBits .f32 0x00000000#32 - rowExp f))
/-- The exponent of a row, as the kernel computes it. -/
def rowKerExp (f : Fin 1024 → EReal) : BitVec 32 := kerExp (rowMax f) (search (rowT f))
/-- A row on which the two agree: all zero, or its greatest magnitude over 448 a normal float below `2 ^ 126`. -/
def InRange (f : Fin 1024 → EReal) : Prop :=
  rowMax f = 0 ∨ (Ideal.ofBits .f32 0x00800000#32 ≤ rowT f ∧ rowT f < Ideal.ofBits .f32 0x7E800000#32)

/-- On a row in range the kernel's scale is the reference's. -/
theorem kerScale_eq (f : Fin 1024 → EReal) (h : InRange f) : pow2 (rowKerExp f) = rowScale f := (scale_eq _ _ h).1
/-- On a row in range the kernel's codes are the reference's. -/
theorem kerCode_eq (f : Fin 1024 → EReal) (h : InRange f) (v : EReal) :
    (clipF (F := Ideal) v (pow2 (IntOp.subi 0#32 (rowKerExp f))) : EReal) = rowCode f v :=
  congrArg (fun s : EReal => (clipF (F := Ideal) v s : EReal)) (scale_eq _ _ h).2

end Cert.Rows

end
-- ==== Proof.Own.Pre.lean ====
/- The precondition, read row by row. -/
module

public import proofs.«01_k».proof.Proof.Gen.Pre_rows_in_range
public import proofs.«01_k».proof.Proof.Own.Rows
public import Idealize.ShloMosaic.Lib.Pointwise

@[expose] public section

set_option maxRecDepth 16384

noncomputable section

namespace Cert.Pre_rows_in_range.Own

open Cert.Pre_rows_in_range Cert.Pre_rows_in_range.Gen Cert.Rows
open Idealize.ShloMosaic

section
variable {F : FTy → Type} [FloatOps F]

/-- The greatest magnitude of each row. -/
def maxV (x : FVec F S4x1024x1024 .bf16) : FVec F S4x1024 .f32 :=
  extf .f32 (Host.reduce FloatOps.maximumf (Host.absf x) (constant S_ .bf16 0xFF80#16 : FVec F S_ .bf16) Facts.reducesTo_S4x1024x1024_S4x1024_d2 Facts.h_S_) Facts.bitsLt_bf16_f32

/-- What the precondition says of a row of greatest magnitude `a`. -/
def rowTest (a : F .f32) : BitVec 1 :=
  IntOp.ori (FloatOps.cmpf .oeq a (FloatOps.ofBits .f32 0x00000000#32))
    (IntOp.andi (FloatOps.cmpf .oge (FloatOps.mulf a (FloatOps.ofBits .f32 0x3B124925#32)) (FloatOps.ofBits .f32 0x00800000#32))
      (FloatOps.cmpf .olt (FloatOps.mulf a (FloatOps.ofBits .f32 0x3B124925#32)) (FloatOps.ofBits .f32 0x7E800000#32)))

theorem fn_gen (x : FVec F S4x1024x1024 .bf16) (w : FVec F S9216x1024 .fp8e4m3) (ws b : FVec F S9216 .f32) (i : S4x1024.Idx) :
    fn x w ws b i = rowTest (maxV x i) := rfl

end

/-- The two formats' negative infinity. -/
theorem ninf_f32 : Ideal.ofBits .f32 0xFF800000#32 = ⊥ := by
  simp [Ideal.ofBits, Ideal.ieee]
theorem ninf_bf16 : Ideal.ofBits .bf16 0xFF80#16 = ⊥ := by
  simp [Ideal.ofBits, Ideal.ieee]

theorem maxV_apply (x : FVec Ideal S4x1024x1024 .bf16) (s : Fin 4) (r : Fin 1024) :
    (maxV x (ix2 s r) : EReal) = rowMax fun k => x (ix3 s r k) := by
  unfold rowMax
  pointwise [maxV]
  rw [ninf_bf16, ninf_f32]
  rfl

/-- The test, read. -/
theorem of_rowTest (a : EReal) (h : rowTest (F := Ideal) a = 1#1) :
    a = 0 ∨ (Ideal.ofBits .f32 0x00800000#32 ≤ a * Ideal.ofBits .f32 0x3B124925#32 ∧ a * Ideal.ofBits .f32 0x3B124925#32 < Ideal.ofBits .f32 0x7E800000#32) := by
  have h' : IntOp.ori (Ideal.cmp .oeq a (Ideal.ofBits .f32 0x00000000#32))
    (IntOp.andi (Ideal.cmp .oge (a * Ideal.ofBits .f32 0x3B124925#32) (Ideal.ofBits .f32 0x00800000#32))
      (Ideal.cmp .olt (a * Ideal.ofBits .f32 0x3B124925#32) (Ideal.ofBits .f32 0x7E800000#32))) = 1#1 := h
  rw [Cert.Exponent.ofBits_zero] at h'
  generalize a * Ideal.ofBits .f32 0x3B124925#32 = t at h' ⊢
  generalize Ideal.ofBits .f32 0x00800000#32 = lo at h' ⊢
  generalize Ideal.ofBits .f32 0x7E800000#32 = hi at h' ⊢
  by_cases h0 : a = 0
  · exact .inl h0
  · refine .inr ?_
    by_contra hn
    simp only [Ideal.cmp, IntOp.ori, IntOp.andi] at h'
    have e : (BitVec.ofBool (decide (lo ≤ t)) &&& BitVec.ofBool (decide (t < hi))) = 0#1 := by
      by_cases h1 : lo ≤ t
      · rw [decide_eq_false (fun h2 => hn ⟨h1, h2⟩), decide_eq_true h1]; rfl
      · rw [decide_eq_false h1]; cases decide (t < hi) <;> rfl
    rw [e, decide_eq_false h0] at h'
    exact absurd h' (by decide)

/-- Under the precondition every row is in range. -/
theorem inRange_of_fn (x : FVec Ideal S4x1024x1024 .bf16) (w : FVec Ideal S9216x1024 .fp8e4m3) (ws b : FVec Ideal S9216 .f32)
    (h : fn x w ws b = fun _ => 1#1) (s : Fin 4) (r : Fin 1024) : InRange fun k => x (ix3 s r k) := by
  have h1 := congrFun h (ix2 s r)
  rw [fn_gen, maxV_apply] at h1
  exact of_rowTest _ h1

end Cert.Pre_rows_in_range.Own

end
-- ==== Proof.Own.KernelRows.lean ====
/- The codes and the scales of a block of rows, entry by entry, at the ideal values. -/
module

public import proofs.«01_k».proof.Proof.Own.Blocks
public import proofs.«01_k».proof.Proof.Own.Rows

@[expose] public section

set_option maxRecDepth 16384

noncomputable section

namespace Cert.KernelIdeal.Own

open Cert.KernelIdeal Cert.KernelIdeal.Gen Cert.Rows Cert.Exponent
open Idealize.ShloMosaic Idealize.ShloMosaic.TcCoe

section
variable {F : FTy → Type} [FloatOps F]

theorem pay5_gen (x : Vec F S1x512x1024 .bf16) (i : S512x1.Idx) :
    k0_pay5 x i = FloatOps.mulf (k0_pay4 x i) (FloatOps.ofBits .f32 0x3B124925#32) := rfl
theorem pay6_gen (x : Vec F S1x512x1024 .bf16) (i : S512x1.Idx) :
    k0_pay6 x i = stepF (k0_pay5 x i) 32#32 (stepF (k0_pay5 x i) 64#32 (stepF (k0_pay5 x i) 128#32 0#32)) := rfl
theorem pay7_gen (t : FVec F S512x1 .f32) (f : IVec S512x1 32) (i : S512x1.Idx) :
    k0_pay7 t f i = stepF (t i) 2#32 (stepF (t i) 4#32 (stepF (t i) 8#32 (stepF (t i) 16#32 (f i)))) := rfl
theorem pay8_gen (a t : FVec F S512x1 .f32) (f : IVec S512x1 32) (i : S512x1.Idx) :
    k0_pay8 a t f i = kerExpF (a i) (stepF (t i) 1#32 (f i)) := rfl
theorem pay10_gen (a t : FVec F S512x1 .f32) (f : IVec S512x1 32) (i : S512x1.Idx) :
    k0_pay10 a t f i = pow2F (k0_pay8 a t f i) := rfl

/-- What the codes of a row are scaled by. -/
def invV (a t : FVec F S512x1 .f32) (f : IVec S512x1 32) : FVec F S512x1 .f32 := fun i =>
  pow2F (IntOp.subi 0#32 (k0_pay8 a t f i))

theorem pay9_gen (x : FVec F S512x1024 .f32) (a t : FVec F S512x1 .f32) (f : IVec S512x1 32) (i : S512x1024.Idx) :
    k0_pay9 x a t f i = FloatOps.truncf .fp8e4m3 bitsLt_fp8e4m3_f32 (clipF (x i)
      (broadcastTo S512x1024 (invV a t f) broadcasts_S512x1_S512x1024 i)) := rfl

end

theorem pay4_apply (x : Vec Ideal S1x512x1024 .bf16) (r : Fin 512) :
    (k0_pay4 x (ix2 r 0) : EReal) = rowMax fun k => x (ix3 0 r k) := by
  unfold rowMax
  pointwise [k0_pay4, k0_pay3]

theorem pay3_apply (x : Vec Ideal S1x512x1024 .bf16) (r : Fin 512) (k : Fin 1024) :
    (k0_pay3 x (ix2 r k) : EReal) = x (ix3 0 r k) := by
  pointwise [k0_pay3]
theorem pay11_apply (x : FVec Ideal S512x1024 .fp8e4m3) (r : Fin 512) (k : Fin 1024) :
    (k0_pay11 (F := Ideal) x (ix3 0 r k) : EReal) = x (ix2 r k) := by
  pointwise [k0_pay11]
theorem pay12_apply (x : FVec Ideal S512x1 .f32) (r : Fin 512) : (k0_pay12 (F := Ideal) x (ix2 r 0) : EReal) = x (ix2 r 0) := by
  pointwise [k0_pay12]
theorem pay13_apply (x : FVec Ideal S512x1 .f32) (r : Fin 512) : (k0_pay13 (F := Ideal) x (ix2 0 r) : EReal) = x (ix2 r 0) := by
  pointwise [k0_pay13]
theorem bcast_apply (v : FVec Ideal S512x1 .f32) (r : Fin 512) (k : Fin 1024) :
    (broadcastTo S512x1024 v broadcasts_S512x1_S512x1024 (ix2 r k) : EReal) = v (ix2 r 0) := by
  pointwise

theorem pay5_apply (x : Vec Ideal S1x512x1024 .bf16) (r : Fin 512) :
    (k0_pay5 x (ix2 r 0) : EReal) = rowT fun k => x (ix3 0 r k) := by
  rw [pay5_gen, pay4_apply]
  rfl

/-- The exponent the kernel finds for a row. -/
theorem exp_apply (x : Vec Ideal S1x512x1024 .bf16) (r : Fin 512) :
    k0_pay8 (k0_pay4 x) (k0_pay5 x) (fieldBlk x) (ix2 r 0) = rowKerExp fun k => x (ix3 0 r k) := by
  unfold fieldBlk rowKerExp search
  rw [pay8_gen, pay7_gen, pay6_gen, pay5_apply, pay4_apply, kerExpF_ideal]
  simp only [stepF_ideal]

/-- The kernel's scale of a row, in the column of scales. -/
theorem scaleBlk_apply (x : Vec Ideal S1x512x1024 .bf16) (r : Fin 512) :
    (scaleBlk x (ix2 r 0) : EReal) = pow2 (rowKerExp fun k => x (ix3 0 r k)) := by
  unfold scaleBlk
  rw [pay12_apply, pay10_gen, exp_apply]
  exact pow2F_ideal _

/-- The kernel's scale of a row, in the row of scales. -/
theorem scaleRow_apply (x : Vec Ideal S1x512x1024 .bf16) (r : Fin 512) :
    (scaleRow x (ix2 0 r) : EReal) = pow2 (rowKerExp fun k => x (ix3 0 r k)) := by
  unfold scaleRow
  rw [pay13_apply, pay10_gen, exp_apply]
  exact pow2F_ideal _

/-- The kernel's code of an entry. -/
theorem codesBlk_apply (x : Vec Ideal S1x512x1024 .bf16) (r : Fin 512) (k : Fin 1024) :
    (codesBlk x (ix3 0 r k) : EReal)
      = clipF (F := Ideal) (x (ix3 0 r k)) (pow2 (IntOp.subi 0#32 (rowKerExp fun k => x (ix3 0 r k)))) := by
  unfold codesBlk
  rw [pay11_apply, pay9_gen, bcast_apply, pay3_apply]
  unfold invV
  rw [exp_apply]
  rfl

end Cert.KernelIdeal.Own

end
-- ==== Proof.Own.RefRows.lean ====
/- The three results of the reference, entry by entry, at the ideal values. -/
module

public import proofs.«01_k».proof.Proof.Gen.ReferenceIdeal.Skeleton
public import proofs.«01_k».proof.Proof.Own.Rows
public import Idealize.ShloMosaic.Lib.Pointwise

@[expose] public section

set_option maxRecDepth 16384

noncomputable section

namespace Cert.ReferenceIdeal.Own

open Cert.ReferenceIdeal Cert.ReferenceIdeal.Gen Cert.Rows
open Idealize.ShloMosaic Idealize.ShloMosaic.TcCoe

section
variable {F : FTy → Type} [FloatOps F]

/-- The greatest magnitude of each row. -/
def maxV (x : Vec F S4x1024x1024 .bf16) : FVec F S4x1024x1 .f32 :=
  shapeCast S4x1024x1 (multiReduction .maximumf [2] S4x1024 (absf (k0_pay2 x)) 0xFF800000#32 reduces_S4x1024x1024_S4x1024 (.inl rfl) rfl) shapeCasts_S4x1024_S4x1024x1

theorem exp_gen (x : Vec F S4x1024x1024 .bf16) (i : S4x1024x1.Idx) :
    k0_pay3 x i = refExpF (maxV x i) (FloatOps.mulf (maxV x i) (FloatOps.ofBits .f32 0x3B124925#32)) := rfl

theorem scale_gen (x : Vec F S4x1024x1024 .bf16) (i : S4x1024x1.Idx) : k0_pay4 x i = FloatOps.exp2 (k0_pay3 x i) := rfl

/-- What the codes of a row are scaled by. -/
def invV (x : Vec F S4x1024x1024 .bf16) : FVec F S4x1024x1 .f32 := fun i =>
  FloatOps.exp2 (FloatOps.subf (FloatOps.ofBits .f32 0x00000000#32) (k0_pay3 x i))

theorem invV_gen (x : Vec F S4x1024x1024 .bf16) (i : S4x1024x1.Idx) :
    invV x i = FloatOps.exp2 (FloatOps.subf (FloatOps.ofBits .f32 0x00000000#32) (k0_pay3 x i)) := rfl

theorem codes_gen (x : Vec F S4x1024x1024 .bf16) (i : S4x1024x1024.Idx) :
    k0_pay5 x i = FloatOps.truncf .fp8e4m3 bitsLt_fp8e4m3_f32 (clipF (FloatOps.extf .f32 bitsLt_bf16_f32 (x i))
      (broadcastTo S4x1024x1024 (invV x) broadcasts_S4x1024x1_S4x1024x1024 i)) := rfl

end

theorem maxV_apply (x : Vec Ideal S4x1024x1024 .bf16) (s : Fin 4) (r : Fin 1024) :
    (maxV x (ix3 s r 0) : EReal) = rowMax fun k => x (ix3 s r k) := by
  unfold rowMax
  pointwise [maxV, k0_pay2]

/-- The reference's exponent of a row. -/
theorem exp_apply (x : Vec Ideal S4x1024x1024 .bf16) (s : Fin 4) (r : Fin 1024) :
    (k0_pay3 x (ix3 s r 0) : EReal) = rowExp fun k => x (ix3 s r k) := by
  unfold rowExp rowT
  rw [exp_gen, maxV_apply, refExpF_ideal, mulf_ideal, ofBits_ideal]

/-- The reference's scale of a row. -/
theorem scale_apply (x : Vec Ideal S4x1024x1024 .bf16) (s : Fin 4) (r : Fin 1024) :
    (k0_pay4 x (ix3 s r 0) : EReal) = rowScale fun k => x (ix3 s r k) := by
  unfold rowScale
  rw [scale_gen, exp_apply, exp2_ideal]

theorem invV_apply (x : Vec Ideal S4x1024x1024 .bf16) (s : Fin 4) (r : Fin 1024) :
    (invV x (ix3 s r 0) : EReal) = Ideal.exp2 (Ideal.ofBits .f32 0x00000000#32 - rowExp fun k => x (ix3 s r k)) := by
  rw [invV_gen, exp_apply, subf_ideal, ofBits_ideal]
  generalize (Ideal.ofBits .f32 0x00000000#32 - rowExp fun k => x (ix3 s r k)) = e
  exact exp2_ideal e

theorem bcast_apply (v : FVec Ideal S4x1024x1 .f32) (s : Fin 4) (r k : Fin 1024) :
    (broadcastTo S4x1024x1024 v broadcasts_S4x1024x1_S4x1024x1024 (ix3 s r k) : EReal) = v (ix3 s r 0) := by
  pointwise

/-- The reference's code of an entry. -/
theorem codes_apply (x : Vec Ideal S4x1024x1024 .bf16) (s : Fin 4) (r k : Fin 1024) :
    (k0_pay5 x (ix3 s r k) : EReal) = rowCode (fun k => x (ix3 s r k)) (x (ix3 s r k)) := by
  rw [codes_gen, bcast_apply, invV_apply]
  rfl

/-- The reference's output at an entry. -/
theorem y_apply (x : Vec Ideal S4x1024x1024 .bf16) (w : Vec Ideal S9216x1024 .fp8e4m3) (ws b : Vec Ideal S9216 .f32) (s : Fin 4) (r : Fin 1024) (n : Fin 9216) :
    (k0_pay6 x w ws b (ix3 s r n) : EReal)
      = (∑ k : Fin 1024, (k0_pay5 x (ix3 s r k) : EReal) * w (ix2 n k)) * k0_pay4 x (ix3 s r 0) * ws (ix1 n) + b (ix1 n) := by
  pointwise [k0_pay6]

end Cert.ReferenceIdeal.Own

end
-- ==== Proof.Own.Arrays.lean ====
/- The kernel's three result arrays at the ideal values: what each grid point writes back is its block of the reference's
   result, on every input whose rows are in range. -/
module

public import proofs.«01_k».proof.Proof.Own.Data
public import proofs.«01_k».proof.Proof.Own.KernelRows
public import proofs.«01_k».proof.Proof.Own.RefRows
public import Idealize.ShloMosaic.Lib.Pipeline.Value

@[expose] public section

set_option maxRecDepth 16384

noncomputable section

namespace Cert.KernelIdeal.Own

open Cert.KernelIdeal Cert.KernelIdeal.Gen Cert.Rows
open Idealize.ShloMosaic Idealize.ShloMosaic.TcCoe Idealize.SL.Sem
open Idealize.ShloMosaic.Pipeline (Dat)

variable (m : (ℓ : Loc nD τ sig) → Buf (Elt Ideal) ℓ)

/-! ## The arguments, and the row vectors made of them -/

/-- The argument arrays on a device. -/
def argX (c : Dev nD) : Vec Ideal S4x1024x1024 .bf16 := m ((c : Thread nD τ).loc main_arg0)
def argW (c : Dev nD) : Vec Ideal S9216x1024 .fp8e4m3 := m ((c : Thread nD τ).loc main_arg1)
def argS (c : Dev nD) : Vec Ideal S9216 .f32 := m ((c : Thread nD τ).loc main_arg2)
def argB (c : Dev nD) : Vec Ideal S9216 .f32 := m ((c : Thread nD τ).loc main_arg3)
/-- A row of `x`. -/
def rowOf (x : Vec Ideal S4x1024x1024 .bf16) (s : Fin 4) (r : Fin 1024) (k : Fin 1024) : EReal := x (ix3 s r k)

/-- The region finds the weight scales as a row. -/
theorem V_main_v0 (c : Dev nD) : (V m c main_v0 : Vec Ideal S1x9216 .f32) = shapeCast S1x9216 (argS m c) shapeCasts_S9216_S1x9216 := by
  show StableHlo.after hostOps0 (fun b => m (c, b)) (Proc.devRef .tc main_v0) = _
  rw [StableHlo.after_cons, StableHlo.after_cons, StableHlo.after_nil,
    StableHlo.reshape_result_ne _ _ _ _ _ _ _ (by exact (by decide : main_v0 ≠ main_v1))]
  exact StableHlo.reshape_result' _ _ _ _ _
/-- The region finds the bias as a row. -/
theorem V_main_v1 (c : Dev nD) : (V m c main_v1 : Vec Ideal S1x9216 .f32) = shapeCast S1x9216 (argB m c) shapeCasts_S9216_S1x9216 := by
  show StableHlo.after hostOps0 (fun b => m (c, b)) (Proc.devRef .tc main_v1) = _
  rw [StableHlo.after_cons, StableHlo.after_cons, StableHlo.after_nil]
  refine (StableHlo.reshape_result' _ _ _ _ _).trans ?_
  rw [StableHlo.reshape_result_ne _ _ _ _ _ _ _ (by exact (by decide : main_arg3 ≠ main_v0))]
  rfl

theorem rowVec_apply (v : Vec Ideal S9216 .f32) (n : Fin 9216) :
    (shapeCast S1x9216 v shapeCasts_S9216_S1x9216 (ix2 0 n) : EReal) = v (ix1 n) := by
  pointwise

theorem x_apply (c : Dev nD) (t : Fin cfg0.N) (r : Fin 512) (k : Fin 1024) :
    ((iblk m c 0 t : Vec Ideal S1x512x1024 .bf16) (ix3 0 r k) : EReal)
      = rowOf (argX m c) ⟨t.val / 8, by have := lt32 t; omega⟩ ⟨512 * (t.val / 4 % 2) + r.val, by omega⟩ k :=
  (iblk0_apply m c t r k).trans (congrFun (V_main_arg0 m c) _)
theorem w_apply (c : Dev nD) (t : Fin cfg0.N) (n : Fin 9216) (k : Fin 1024) :
    ((iblk m c 1 t : Vec Ideal S9216x1024 .fp8e4m3) (ix2 n k) : EReal) = argW m c (ix2 n k) :=
  (iblk1_apply m c t n k).trans (congrFun (V_main_arg1 m c) _)
theorem ws_apply (c : Dev nD) (t : Fin cfg0.N) (n : Fin 2304) :
    ((iblk m c 2 t : Vec Ideal S1x2304 .f32) (ix2 0 n) : EReal) = argS m c (ix1 ⟨2304 * (t.val % 4) + n.val, by omega⟩) :=
  (iblk2_apply m c t n).trans ((congrFun (V_main_v0 m c) _).trans (rowVec_apply _ _))
theorem b_apply (c : Dev nD) (t : Fin cfg0.N) (n : Fin 2304) :
    ((iblk m c 3 t : Vec Ideal S1x2304 .f32) (ix2 0 n) : EReal) = argB m c (ix1 ⟨2304 * (t.val % 4) + n.val, by omega⟩) :=
  (iblk3_apply m c t n).trans ((congrFun (V_main_v1 m c) _).trans (rowVec_apply _ _))

/-! ## What a point computes, against the reference -/

variable (hr : ∀ (c : Dev nD) (s : Fin 4) (r : Fin 1024), InRange (rowOf (argX m c) s r))

/-- The reference's results of the arguments. -/
def refY (c : Dev nD) : Vec Ideal S4x1024x9216 .bf16 :=
  Cert.ReferenceIdeal.Gen.k0_pay1 (Cert.ReferenceIdeal.Gen.k0_pay6 (argX m c) (argW m c) (argS m c) (argB m c))
def refCodes (c : Dev nD) : Vec Ideal S4x1024x1024 .fp8e4m3 := Cert.ReferenceIdeal.Gen.k0_pay5 (argX m c)
def refScale (c : Dev nD) : Vec Ideal S4x1024x1 .f32 := Cert.ReferenceIdeal.Gen.k0_pay4 (argX m c)

theorem row_eq (c : Dev nD) (t : Fin cfg0.N) (r : Fin 512) :
    (fun k : Fin 1024 => ((iblk m c 0 t : Vec Ideal S1x512x1024 .bf16) (ix3 0 r k) : EReal))
      = rowOf (argX m c) ⟨t.val / 8, by have := lt32 t; omega⟩ ⟨512 * (t.val / 4 % 2) + r.val, by omega⟩ :=
  funext fun k => x_apply m c t r k

include hr in
/-- The codes of a point are the reference's. -/
theorem codesAt_apply (c : Dev nD) (t : Fin cfg0.N) (r : Fin 512) (k : Fin 1024) :
    (codesAt m c t (ix3 0 r k) : EReal)
      = refCodes m c (ix3 ⟨t.val / 8, by have := lt32 t; omega⟩ ⟨512 * (t.val / 4 % 2) + r.val, by omega⟩ k) := by
  unfold codesAt refCodes
  rw [codesBlk_apply, row_eq, x_apply, kerCode_eq _ (hr c _ _)]
  exact (Cert.ReferenceIdeal.Own.codes_apply _ _ _ _).symm

include hr in
/-- The scales of a point are the reference's. -/
theorem scaleAt_apply (c : Dev nD) (t : Fin cfg0.N) (r : Fin 512) :
    (scaleAt m c t (ix2 r 0) : EReal)
      = refScale m c (ix3 ⟨t.val / 8, by have := lt32 t; omega⟩ ⟨512 * (t.val / 4 % 2) + r.val, by omega⟩ 0) := by
  unfold scaleAt refScale
  rw [scaleBlk_apply, row_eq, kerScale_eq _ (hr c _ _)]
  exact (Cert.ReferenceIdeal.Own.scale_apply _ _ _).symm

include hr in
theorem rowAt_apply (c : Dev nD) (t : Fin cfg0.N) (r : Fin 512) :
    (rowAt m c t (ix2 0 r) : EReal)
      = refScale m c (ix3 ⟨t.val / 8, by have := lt32 t; omega⟩ ⟨512 * (t.val / 4 % 2) + r.val, by omega⟩ 0) := by
  unfold rowAt refScale
  rw [scaleRow_apply, row_eq, kerScale_eq _ (hr c _ _)]
  exact (Cert.ReferenceIdeal.Own.scale_apply _ _ _).symm

theorem refY_apply (c : Dev nD) (s : Fin 4) (r : Fin 1024) (n : Fin 9216) :
    (refY m c (ix3 s r n) : EReal)
      = (∑ k : Fin 1024, (refCodes m c (ix3 s r k) : EReal) * argW m c (ix2 n k)) * refScale m c (ix3 s r 0) * argS m c (ix1 n) + argB m c (ix1 n) :=
  Cert.ReferenceIdeal.Own.y_apply _ _ _ _ _ _ _

include hr in
/-- The output block of a point is the reference's. -/
theorem yAtPt_apply (c : Dev nD) (t : Fin cfg0.N) (r : Fin 512) (n : Fin 2304) :
    (yAtPt m c t (ix3 0 r n) : EReal)
      = refY m c (ix3 ⟨t.val / 8, by have := lt32 t; omega⟩ ⟨512 * (t.val / 4 % 2) + r.val, by omega⟩ ⟨2304 * (t.val % 4) + n.val, by omega⟩) := by
  unfold yAtPt
  refine (yBlk_apply _ _ _ _ _ _ r n).trans ?_
  rw [refY_apply]
  unfold yAt
  rw [scaleAt_apply m hr, ws_apply, b_apply]
  have e : (⟨2304 * (grid0.coords t 1).val + n.val, by have : (grid0.coords t 1).val < 4 := (grid0.coords t 1).isLt; omega⟩ : Fin 9216)
      = ⟨2304 * (t.val % 4) + n.val, by omega⟩ := Fin.ext (by show 2304 * (grid0.coords t 1).val + n.val = _; rw [col_eq])
  refine congrArg (fun z : EReal => z * _ * _ + _) (Finset.sum_congr rfl fun k _ => ?_)
  rw [codesAt_apply m hr]
  exact congrArg (fun z : EReal => _ * z) ((w_apply m c t _ k).trans (congrArg (fun z => argW m c (ix2 z k)) e))

end Cert.KernelIdeal.Own

end
-- ==== Proof.Own.Final.lean ====
/- The three result arrays after the run, from what the points computed: when every entry a point leaves is the entry of `G`
   under it, the array ends holding `G`, because the written blocks cover it. -/
module

public import proofs.«01_k».proof.Proof.Own.Body
public import proofs.«01_k».proof.Proof.Gen.KernelIdeal.Frame
public import Idealize.ShloMosaic.Lib.Pipeline.Value

@[expose] public section

set_option maxRecDepth 16384

noncomputable section

namespace Cert.KernelIdeal.Own

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

theorem ix2_congr {a b : ℕ} {x x' : Fin a} {y y' : Fin b} (hx : x.val = x'.val) (hy : y.val = y'.val) : ix2 x y = ix2 x' y' := by
  rw [Fin.ext hx, Fin.ext hy]
theorem ix3_congr {a b c : ℕ} {x x' : Fin a} {y y' : Fin b} {z z' : Fin c} (hx : x.val = x'.val) (hy : y.val = y'.val)
    (hz : z.val = z'.val) : ix3 x y z = ix3 x' y' z' := by
  rw [Fin.ext hx, Fin.ext hy, Fin.ext hz]

/-- A block that holds the entries of `G` under it, cut, is `G` read through the window's block. -/
theorem cut4_eq (t : Fin cfg0.N) (Y : Vec F S1x512x2304 .bf16) (G : Vec F S4x1024x9216 .bf16)
    (h : ∀ (r : Fin 512) (n : Fin 2304), Y (ix3 0 r n)
      = G (ix3 ⟨t.val / 8, by have := lt32 t; omega⟩ ⟨512 * (t.val / 4 % 2) + r.val, by omega⟩ ⟨2304 * (t.val % 4) + n.val, by omega⟩)) :
    (cfg0.win 4).cut (grid0.coords t) Y = ((cfg0.win 4).blk t).view.read (Elt F) G := by
  have h' : ∀ j : S1x512x2304.Idx, Y j = G (((cfg0.win 4).blk t).view.emb j) := by
    intro j
    idx_vars j
    obtain rfl : j0 = 0 := Subsingleton.elim _ _
    exact (h j1 j2).trans (congrArg G (emb4 t j1 j2)).symm
  funext j
  exact h' j
theorem cut5_eq (t : Fin cfg0.N) (Y : Vec F S1x512x1024 .fp8e4m3) (G : Vec F S4x1024x1024 .fp8e4m3)
    (h : ∀ (r : Fin 512) (k : Fin 1024), Y (ix3 0 r k)
      = G (ix3 ⟨t.val / 8, by have := lt32 t; omega⟩ ⟨512 * (t.val / 4 % 2) + r.val, by omega⟩ k)) :
    (cfg0.win 5).cut (grid0.coords t) Y = ((cfg0.win 5).blk t).view.read (Elt F) G := by
  have h' : ∀ j : S1x512x1024.Idx, Y j = G (((cfg0.win 5).blk t).view.emb j) := by
    intro j
    idx_vars j
    obtain rfl : j0 = 0 := Subsingleton.elim _ _
    exact (h j1 j2).trans (congrArg G (emb5 t j1 j2)).symm
  funext j
  exact h' j
theorem cut6_eq (t : Fin cfg0.N) (Y : Vec F S1x512 .f32) (G : Vec F S1x4096 .f32)
    (h : ∀ r : Fin 512, Y (ix2 0 r) = G (ix2 0 ⟨512 * (t.val / 4) + r.val, by have := lt32 t; omega⟩)) :
    (cfg0.win 6).cut (grid0.coords t) Y = ((cfg0.win 6).blk t).view.read (Elt F) G := by
  have h' : ∀ j : S1x512.Idx, Y j = G (((cfg0.win 6).blk t).view.emb j) := by
    intro j
    idx_vars j
    obtain rfl : j0 = 0 := Subsingleton.elim _ _
    exact (h j1).trans (congrArg G (emb6 t j1)).symm
  funext j
  exact h' j

/-- Every entry of an output array is in the block of a point that writes it back. -/
theorem covered4 (i : S4x1024x9216.Idx) :
    ∃ t : Fin cfg0.N, (cfg0.win 4).flush t = true ∧ i ∈ ((cfg0.win 4).blk t).view.set := by
  idx_vars i
  have l0 : i0.val < 4 := i0.isLt
  have l1 : i1.val < 1024 := i1.isLt
  have l2 : i2.val < 9216 := i2.isLt
  have ht : 8 * i0.val + 4 * (i1.val / 512) + i2.val / 2304 < cfg0.N := by rw [N_eq]; omega
  refine ⟨⟨_, ht⟩, flush0_4 _, ?_⟩
  have h := ((cfg0.win 4).blk ⟨_, ht⟩).view.emb_mem_set
    (ix3 0 ⟨i1.val % 512, Nat.mod_lt _ (by decide)⟩ ⟨i2.val % 2304, Nat.mod_lt _ (by decide)⟩ : S1x512x2304.Idx)
  rw [emb4] at h
  rwa [ix3_congr (x' := i0) (y' := i1) (z' := i2)
    (by show (8 * i0.val + 4 * (i1.val / 512) + i2.val / 2304) / 8 = i0.val; omega)
    (by show 512 * ((8 * i0.val + 4 * (i1.val / 512) + i2.val / 2304) / 4 % 2) + i1.val % 512 = i1.val; omega)
    (by show 2304 * ((8 * i0.val + 4 * (i1.val / 512) + i2.val / 2304) % 4) + i2.val % 2304 = i2.val; omega)] at h
theorem covered5 (i : S4x1024x1024.Idx) :
    ∃ t : Fin cfg0.N, (cfg0.win 5).flush t = true ∧ i ∈ ((cfg0.win 5).blk t).view.set := by
  idx_vars i
  have l0 : i0.val < 4 := i0.isLt
  have l1 : i1.val < 1024 := i1.isLt
  have ht : 8 * i0.val + 4 * (i1.val / 512) + 3 < cfg0.N := by rw [N_eq]; omega
  refine ⟨⟨_, ht⟩, (flush0_5 _).mpr (by show (8 * i0.val + 4 * (i1.val / 512) + 3) % 4 = 3; omega), ?_⟩
  have h := ((cfg0.win 5).blk ⟨_, ht⟩).view.emb_mem_set (ix3 0 ⟨i1.val % 512, Nat.mod_lt _ (by decide)⟩ i2 : S1x512x1024.Idx)
  rw [emb5] at h
  rwa [ix3_congr (x' := i0) (y' := i1) (z' := i2)
    (by show (8 * i0.val + 4 * (i1.val / 512) + 3) / 8 = i0.val; omega)
    (by show 512 * ((8 * i0.val + 4 * (i1.val / 512) + 3) / 4 % 2) + i1.val % 512 = i1.val; omega) rfl] at h
theorem covered6 (i : S1x4096.Idx) :
    ∃ t : Fin cfg0.N, (cfg0.win 6).flush t = true ∧ i ∈ ((cfg0.win 6).blk t).view.set := by
  idx_vars i
  obtain rfl : i0 = 0 := Subsingleton.elim _ _
  have l1 : i1.val < 4096 := i1.isLt
  have ht : 4 * (i1.val / 512) + 3 < cfg0.N := by rw [N_eq]; omega
  refine ⟨⟨_, ht⟩, (flush0_6 _).mpr (by show (4 * (i1.val / 512) + 3) % 4 = 3; omega), ?_⟩
  have h := ((cfg0.win 6).blk ⟨_, ht⟩).view.emb_mem_set (ix2 0 ⟨i1.val % 512, Nat.mod_lt _ (by decide)⟩ : S1x512.Idx)
  rw [emb6] at h
  rwa [ix2_congr (x' := 0) (y' := i1) rfl
    (by show 512 * ((4 * (i1.val / 512) + 3) / 4) + i1.val % 512 = i1.val; omega)] at h

/-- The output array after the run. -/
theorem final4 (c : Dev nD) (G : Vec F S4x1024x9216 .bf16) (h : ∀ (t : Fin cfg0.N) (r : Fin 512) (n : Fin 2304), yAtPt m c t (ix3 0 r n)
      = G (ix3 ⟨t.val / 8, by have := lt32 t; omega⟩ ⟨512 * (t.val / 4 % 2) + r.val, by omega⟩ ⟨2304 * (t.val % 4) + n.val, by omega⟩)) :
    (dats m 0 c).arrAt 4 cfg0.N = G :=
  (dats m 0 c).arrAt_eq_of_cover 4 G (fun t _ => by
    show (cfg0.win 4).cut (grid0.coords t) ((dats m 0 c).after 4 t) = _
    rw [after0_4]
    exact cut4_eq t _ G (h t)) covered4
/-- The array of codes after the run. -/
theorem final5 (c : Dev nD) (G : Vec F S4x1024x1024 .fp8e4m3) (h : ∀ (t : Fin cfg0.N) (r : Fin 512) (k : Fin 1024), codesAt m c t (ix3 0 r k)
      = G (ix3 ⟨t.val / 8, by have := lt32 t; omega⟩ ⟨512 * (t.val / 4 % 2) + r.val, by omega⟩ k)) :
    (dats m 0 c).arrAt 5 cfg0.N = G :=
  (dats m 0 c).arrAt_eq_of_cover 5 G (fun t _ => by
    show (cfg0.win 5).cut (grid0.coords t) ((dats m 0 c).after 5 t) = _
    rw [after0_5]
    exact cut5_eq t _ G (h t)) covered5
/-- The array of scales after the run. -/
theorem final6 (c : Dev nD) (G : Vec F S1x4096 .f32) (h : ∀ (t : Fin cfg0.N) (r : Fin 512), rowAt m c t (ix2 0 r)
      = G (ix2 0 ⟨512 * (t.val / 4) + r.val, by have := lt32 t; omega⟩)) :
    (dats m 0 c).arrAt 6 cfg0.N = G :=
  (dats m 0 c).arrAt_eq_of_cover 6 G (fun t _ => by
    show (cfg0.win 6).cut (grid0.coords t) ((dats m 0 c).after 6 t) = _
    rw [after0_6]
    exact cut6_eq t _ G (h t)) covered6

/-- The scales as the program returns them: the array of scales, reshaped. -/
theorem final_scales (c : Dev nD) :
    Pipeline.afterTail₀ cfgs (dats m) 0 (V0 m) [hostOps1] c main_v3
      = shapeCast S4x1024x1 ((dats m 0 c).arrAt 6 cfg0.N : Vec F S1x4096 .f32) shapeCasts_S1x4096_S4x1024x1 := by
  unfold Pipeline.afterTail₀
  show StableHlo.after hostOps1 _ (Proc.devRef .tc main_v3) = _
  rw [StableHlo.after_cons, StableHlo.after_nil]
  refine (StableHlo.reshape_result' _ _ _ _ _).trans ?_
  exact congrArg (fun v => shapeCast S4x1024x1 (v : Vec F S1x4096 .f32) shapeCasts_S1x4096_S4x1024x1)
    (Pipeline.withArrays_arr spec0 (by decide) c (V0 m c) (fun w => (dats m 0 c).arrAt w cfg0.N) 6)

/-- Scales with one axis more, laid out as a row. -/
def rowOfScales (G : Vec F S4x1024x1 .f32) : Vec F S1x4096 .f32 := fun i =>
  G (ix3 ⟨(i 1).val / 1024, by have : (i 1).val < 4096 := (i 1).isLt; omega⟩ ⟨(i 1).val % 1024, Nat.mod_lt _ (by decide)⟩ 0)

/-- The reshape reads that row back. -/
theorem shapeCast_rowOfScales (G : Vec F S4x1024x1 .f32) :
    shapeCast S4x1024x1 (rowOfScales G) shapeCasts_S1x4096_S4x1024x1 = G := by
  have hs : ∀ (v : Vec F S1x4096 .f32) (s : Fin 4) (r : Fin 1024),
      shapeCast S4x1024x1 v shapeCasts_S1x4096_S4x1024x1 (ix3 s r 0) = v (ix2 0 ⟨s.val * 1024 + r.val, by omega⟩) := by
    intro v s r
    pointwise
  have h : ∀ i : S4x1024x1.Idx, shapeCast S4x1024x1 (rowOfScales G) shapeCasts_S1x4096_S4x1024x1 i = G i := by
    intro i
    idx_vars i
    obtain rfl : i2 = 0 := Subsingleton.elim _ _
    refine (hs _ i0 i1).trans (congrArg G (ix3_congr ?_ ?_ rfl))
    · show (i0.val * 1024 + i1.val) / 1024 = i0.val
      omega
    · show (i0.val * 1024 + i1.val) % 1024 = i1.val
      omega
  exact funext h

variable (ρ : Dev nD → PrngReg)

/-- The run, from what the points compute: the three results, and the arguments unchanged. -/
theorem run_of (Y : Dev nD → Vec F S4x1024x9216 .bf16) (C : Dev nD → Vec F S4x1024x1024 .fp8e4m3) (S : Dev nD → Vec F S4x1024x1 .f32)
    (hY : ∀ (c : Dev nD) (t : Fin cfg0.N) (r : Fin 512) (n : Fin 2304), yAtPt m c t (ix3 0 r n)
      = Y c (ix3 ⟨t.val / 8, by have := lt32 t; omega⟩ ⟨512 * (t.val / 4 % 2) + r.val, by omega⟩ ⟨2304 * (t.val % 4) + n.val, by omega⟩))
    (hC : ∀ (c : Dev nD) (t : Fin cfg0.N) (r : Fin 512) (k : Fin 1024), codesAt m c t (ix3 0 r k)
      = C c (ix3 ⟨t.val / 8, by have := lt32 t; omega⟩ ⟨512 * (t.val / 4 % 2) + r.val, by omega⟩ k))
    (hS : ∀ (c : Dev nD) (t : Fin cfg0.N) (r : Fin 512), rowAt m c t (ix2 0 r)
      = S c (ix3 ⟨t.val / 8, by have := lt32 t; omega⟩ ⟨512 * (t.val / 4 % 2) + r.val, by omega⟩ 0)) :
    θ_run defs (onTc (τ := τ) (main (F := F))) ⟨m, fun _ => 0, ρ⟩ (fun r => ∀ c : Dev nD,
      r.2.mem ((c.tc : Thread nD τ).loc main_v2_0) = Y c
      ∧ r.2.mem ((c.tc : Thread nD τ).loc main_v2_1) = C c
      ∧ r.2.mem ((c.tc : Thread nD τ).loc main_v3) = S c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  have hS' : ∀ c, (dats m 0 c).arrAt 6 cfg0.N = rowOfScales (S c) := fun c => final6 m c _ fun t r =>
    (hS c t r).trans (congrArg (S c) (ix3_congr
      (by show t.val / 8 = (512 * (t.val / 4) + r.val) / 1024; omega)
      (by show 512 * (t.val / 4 % 2) + r.val = (512 * (t.val / 4) + r.val) % 1024; omega) rfl))
  refine (θ_run defs _ _).mono (fun _ h c => ?_) (θ_run_and (run_main m ρ) (frame_of m ρ (dats m) (A_eq m) (run_main m ρ)))
  refine ⟨((h.1 c).1 4).trans (final4 m c _ (hY c)), ((h.1 c).1 5).trans (final5 m c _ (hC c)), ?_, h.2 c⟩
  refine ((h.1 c).2 main_v3 (Pipeline.mem_restRefs_of main_v3 (by decide) (by decide))).trans ((final_scales m c).trans ?_)
  exact (congrArg (fun v => shapeCast S4x1024x1 (v : Vec F S1x4096 .f32) shapeCasts_S1x4096_S4x1024x1) (hS' c)).trans
    (shapeCast_rowOfScales (S c))

end Cert.KernelIdeal.Own

end
-- ==== Proof.Own.RefRun.lean ====
/- The run of the reference, read: after it the three result arrays are the three closed terms of the program
   applied to the argument arrays, and the arguments are unchanged. The reference has one grid point and each window's
   block is its whole array, so an index of a block is the same index of its array. -/
module

public import proofs.«01_k».proof.Proof.Gen.ReferenceIdeal.Frame
public import Idealize.ShloMosaic.Lib.Pipeline.Value

@[expose] public section

noncomputable section

namespace Cert.ReferenceIdeal.Own

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## What the frame run leaves, buffer by buffer -/

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v0_0) = (dats m 0 c).arrAt 4 cfg0.N :=
  (h c).1 4

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v0_1) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v0_2) = (dats m 0 c).arrAt 6 cfg0.N :=
  (h c).1 6

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-! ## Closed form at one grid point: every window's block is its array -/

theorem hz0 : (![0, 0, 0] : Fin 3 → Nat) = fun _ => 0 := funext fun a => by fin_cases a <;> rfl

/-- Window 0's block index at the one point is zero on every axis. -/
theorem idx_zero0 : ∀ t : Fin cfg0.N, win0_0.index t (0 : Fin 3) = 0 ∧ win0_0.index t (1 : Fin 3) = 0 ∧ win0_0.index t (2 : Fin 3) = 0 :=
  (by decide +kernel : ∀ t : Fin grid0.N, _)

/-- An index of window 0's block is the same index of its array. -/
theorem emb0 (t : Fin cfg0.N) (j : S4x1024x1024.Idx) : ((cfg0.win 0).blk t).view.emb j = j := by
  obtain ⟨e0, e1, e2⟩ := idx_zero0 t
  funext a; apply Fin.ext
  match a with
  | ⟨0, _⟩ => show win0_0.index t (0 : Fin 3) * 4 + 1 * (j 0).val = (j 0).val; omega
  | ⟨1, _⟩ => show win0_0.index t (1 : Fin 3) * 1024 + 1 * (j 1).val = (j 1).val; omega
  | ⟨2, _⟩ => show win0_0.index t (2 : Fin 3) * 1024 + 1 * (j 2).val = (j 2).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0, 0] : Fin 2 → Nat) = fun _ => 0 := funext fun a => by fin_cases a <;> rfl

/-- Window 1's block index at the one point is zero on every axis. -/
theorem idx_zero1 : ∀ t : Fin cfg0.N, win0_1.index t (0 : Fin 2) = 0 ∧ win0_1.index t (1 : Fin 2) = 0 :=
  (by decide +kernel : ∀ t : Fin grid0.N, _)

/-- An index of window 1's block is the same index of its array. -/
theorem emb1 (t : Fin cfg0.N) (j : S9216x1024.Idx) : ((cfg0.win 1).blk t).view.emb j = j := by
  obtain ⟨e0, e1⟩ := idx_zero1 t
  funext a; apply Fin.ext
  match a with
  | ⟨0, _⟩ => show win0_1.index t (0 : Fin 2) * 9216 + 1 * (j 0).val = (j 0).val; omega
  | ⟨1, _⟩ => show win0_1.index t (1 : Fin 2) * 1024 + 1 * (j 1).val = (j 1).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem hz2 : (![0] : Fin 1 → Nat) = fun _ => 0 := funext fun a => by fin_cases a <;> rfl

/-- Window 2's block index at the one point is zero on every axis. -/
theorem idx_zero2 : ∀ t : Fin cfg0.N, win0_2.index t (0 : Fin 1) = 0 :=
  (by decide +kernel : ∀ t : Fin grid0.N, _)

/-- An index of window 2's block is the same index of its array. -/
theorem emb2 (t : Fin cfg0.N) (j : S9216.Idx) : ((cfg0.win 2).blk t).view.emb j = j := by
  have e0 := idx_zero2 t
  funext a; apply Fin.ext
  match a with
  | ⟨0, _⟩ => show win0_2.index t (0 : Fin 1) * 9216 + 1 * (j 0).val = (j 0).val; omega

/-- Input window 2's block at the point is its array as the region finds it. -/
theorem iblk2_eq (c : Dev nD) (t : Fin cfg0.N) : iblk m c 2 t = V m c main_arg2 := by
  funext j; show V m c main_arg2 (((cfg0.win 2).blk t).view.emb j) = V m c main_arg2 j; rw [emb2]

theorem hz3 : (![0] : Fin 1 → Nat) = fun _ => 0 := funext fun a => by fin_cases a <;> rfl

/-- Window 3's block index at the one point is zero on every axis. -/
theorem idx_zero3 : ∀ t : Fin cfg0.N, win0_3.index t (0 : Fin 1) = 0 :=
  (by decide +kernel : ∀ t : Fin grid0.N, _)

/-- An index of window 3's block is the same index of its array. -/
theorem emb3 (t : Fin cfg0.N) (j : S9216.Idx) : ((cfg0.win 3).blk t).view.emb j = j := by
  have e0 := idx_zero3 t
  funext a; apply Fin.ext
  match a with
  | ⟨0, _⟩ => show win0_3.index t (0 : Fin 1) * 9216 + 1 * (j 0).val = (j 0).val; omega

/-- Input window 3's block at the point is its array as the region finds it. -/
theorem iblk3_eq (c : Dev nD) (t : Fin cfg0.N) : iblk m c 3 t = V m c main_arg3 := by
  funext j; show V m c main_arg3 (((cfg0.win 3).blk t).view.emb j) = V m c main_arg3 j; rw [emb3]

theorem hz4 : (![0, 0, 0] : Fin 3 → Nat) = fun _ => 0 := funext fun a => by fin_cases a <;> rfl

/-- Window 4's block index at the one point is zero on every axis. -/
theorem idx_zero4 : ∀ t : Fin cfg0.N, win0_4.index t (0 : Fin 3) = 0 ∧ win0_4.index t (1 : Fin 3) = 0 ∧ win0_4.index t (2 : Fin 3) = 0 :=
  (by decide +kernel : ∀ t : Fin grid0.N, _)

/-- An index of window 4's block is the same index of its array. -/
theorem emb4 (t : Fin cfg0.N) (j : S4x1024x9216.Idx) : ((cfg0.win 4).blk t).view.emb j = j := by
  obtain ⟨e0, e1, e2⟩ := idx_zero4 t
  funext a; apply Fin.ext
  match a with
  | ⟨0, _⟩ => show win0_4.index t (0 : Fin 3) * 4 + 1 * (j 0).val = (j 0).val; omega
  | ⟨1, _⟩ => show win0_4.index t (1 : Fin 3) * 1024 + 1 * (j 1).val = (j 1).val; omega
  | ⟨2, _⟩ => show win0_4.index t (2 : Fin 3) * 9216 + 1 * (j 2).val = (j 2).val; omega

theorem hz5 : (![0, 0, 0] : Fin 3 → Nat) = fun _ => 0 := funext fun a => by fin_cases a <;> rfl

/-- Window 5's block index at the one point is zero on every axis. -/
theorem idx_zero5 : ∀ t : Fin cfg0.N, win0_5.index t (0 : Fin 3) = 0 ∧ win0_5.index t (1 : Fin 3) = 0 ∧ win0_5.index t (2 : Fin 3) = 0 :=
  (by decide +kernel : ∀ t : Fin grid0.N, _)

/-- An index of window 5's block is the same index of its array. -/
theorem emb5 (t : Fin cfg0.N) (j : S4x1024x1024.Idx) : ((cfg0.win 5).blk t).view.emb j = j := by
  obtain ⟨e0, e1, e2⟩ := idx_zero5 t
  funext a; apply Fin.ext
  match a with
  | ⟨0, _⟩ => show win0_5.index t (0 : Fin 3) * 4 + 1 * (j 0).val = (j 0).val; omega
  | ⟨1, _⟩ => show win0_5.index t (1 : Fin 3) * 1024 + 1 * (j 1).val = (j 1).val; omega
  | ⟨2, _⟩ => show win0_5.index t (2 : Fin 3) * 1024 + 1 * (j 2).val = (j 2).val; omega

theorem hz6 : (![0, 0, 0] : Fin 3 → Nat) = fun _ => 0 := funext fun a => by fin_cases a <;> rfl

/-- Window 6's block index at the one point is zero on every axis. -/
theorem idx_zero6 : ∀ t : Fin cfg0.N, win0_6.index t (0 : Fin 3) = 0 ∧ win0_6.index t (1 : Fin 3) = 0 ∧ win0_6.index t (2 : Fin 3) = 0 :=
  (by decide +kernel : ∀ t : Fin grid0.N, _)

/-- An index of window 6's block is the same index of its array. -/
theorem emb6 (t : Fin cfg0.N) (j : S4x1024x1.Idx) : ((cfg0.win 6).blk t).view.emb j = j := by
  obtain ⟨e0, e1, e2⟩ := idx_zero6 t
  funext a; apply Fin.ext
  match a with
  | ⟨0, _⟩ => show win0_6.index t (0 : Fin 3) * 4 + 1 * (j 0).val = (j 0).val; omega
  | ⟨1, _⟩ => show win0_6.index t (1 : Fin 3) * 1024 + 1 * (j 1).val = (j 1).val; omega
  | ⟨2, _⟩ => show win0_6.index t (2 : Fin 3) * 1 + 1 * (j 2).val = (j 2).val; omega

/-! ### Output window 4: the array after the run -/

/-- What the window's array ends holding: `out0_4` applied to the argument arrays in place of the input blocks. -/
abbrev G4 (a0 : Vec F S4x1024x1024 .bf16) (a1 : Vec F S9216x1024 .fp8e4m3) (a2 : Vec F S9216 .f32) (a3 : Vec F S9216 .f32) : Vec F S4x1024x9216 .bf16 :=
  k0_pay1 (k0_pay6 a0 a1 a2 a3)

/-- A load of the whole of a block reads the block, and the one store through the whole rectangle leaves its payload. -/
theorem out4_eq (a0 : Vec F S4x1024x1024 .bf16) (a1 : Vec F S9216x1024 .fp8e4m3) (a2 : Vec F S9216 .f32) (a3 : Vec F S9216 .f32) : out0_4 (F := F) a0 a1 a2 a3 = G4 a0 a1 a2 a3 := by
  unfold out0_4
  rw [View.canon_unit_zero hz4, View.ld_unit_zero (S := S4x1024x1024) hz0 _ a0, View.ld_unit_zero (S := S9216x1024) hz1 _ a1, View.ld_unit_zero (S := S9216) hz2 _ a2, View.ld_unit_zero (S := S9216) hz3 _ a3]

/-- Cutting the point's block out of `X` and reading `X` through the block's view give the same. -/
theorem cut4_eq (t : Fin cfg0.N) (X : Vec F S4x1024x9216 .bf16) :
    (cfg0.win 4).cut (grid0.coords t) X = ((cfg0.win 4).blk t).view.read (Elt F) X := by
  funext j
  show X j = X (((cfg0.win 4).blk t).view.emb j)
  rw [emb4]

/-- What the point writes back is its block of `G4` of the argument arrays as the region finds them. -/
theorem flushed4_eq (c : Dev nD) (t : Fin cfg0.N) :
    (dats m 0 c).flushed 4 t = ((cfg0.win 4).blk t).view.read (Elt F) (G4 (V m c main_arg0) (V m c main_arg1) (V m c main_arg2) (V m c main_arg3)) := by
  show (cfg0.win 4).cut (grid0.coords t) ((dats m 0 c).after 4 t) = _
  rw [after0_4, out4_eq, iblk0_eq, iblk1_eq, iblk2_eq, iblk3_eq]
  exact cut4_eq t _

/-- Every index of the array is in the point's block. -/
theorem covered4 (i : S4x1024x9216.Idx) :
    ∃ t : Fin cfg0.N, (cfg0.win 4).flush t = true ∧ i ∈ ((cfg0.win 4).blk t).view.set :=
  ⟨(⟨0, by decide⟩ : Fin cfg0.N), flush0_4 _, by have h := ((cfg0.win 4).blk (⟨0, by decide⟩ : Fin cfg0.N)).view.emb_mem_set i; rwa [emb4] at h⟩

/-- The array after the run: `G4` of the argument arrays as launched. -/
theorem final4 (c : Dev nD) : (dats m 0 c).arrAt 4 cfg0.N = G4 (m ((c : Thread nD τ).loc main_arg0)) (m ((c : Thread nD τ).loc main_arg1)) (m ((c : Thread nD τ).loc main_arg2)) (m ((c : Thread nD τ).loc main_arg3)) :=
  ((dats m 0 c).arrAt_eq_of_cover 4 (G4 (V m c main_arg0) (V m c main_arg1) (V m c main_arg2) (V m c main_arg3)) (fun t _ => flushed4_eq m c t) covered4).trans (by rw [V_main_arg0, V_main_arg1, V_main_arg2, V_main_arg3])

/-! ### Output window 5: the array after the run -/

/-- What the window's array ends holding: `out0_5` applied to the argument arrays in place of the input blocks. -/
abbrev G5 (a0 : Vec F S4x1024x1024 .bf16) (a1 : Vec F S9216x1024 .fp8e4m3) (a2 : Vec F S9216 .f32) (a3 : Vec F S9216 .f32) : Vec F S4x1024x1024 .fp8e4m3 :=
  k0_pay5 a0

/-- A load of the whole of a block reads the block, and the one store through the whole rectangle leaves its payload. -/
theorem out5_eq (a0 : Vec F S4x1024x1024 .bf16) (a1 : Vec F S9216x1024 .fp8e4m3) (a2 : Vec F S9216 .f32) (a3 : Vec F S9216 .f32) : out0_5 (F := F) a0 a1 a2 a3 = G5 a0 a1 a2 a3 := by
  unfold out0_5
  rw [View.canon_unit_zero hz5, View.ld_unit_zero (S := S4x1024x1024) hz0 _ a0]

/-- Cutting the point's block out of `X` and reading `X` through the block's view give the same. -/
theorem cut5_eq (t : Fin cfg0.N) (X : Vec F S4x1024x1024 .fp8e4m3) :
    (cfg0.win 5).cut (grid0.coords t) X = ((cfg0.win 5).blk t).view.read (Elt F) X := by
  funext j
  show X j = X (((cfg0.win 5).blk t).view.emb j)
  rw [emb5]

/-- What the point writes back is its block of `G5` of the argument arrays as the region finds them. -/
theorem flushed5_eq (c : Dev nD) (t : Fin cfg0.N) :
    (dats m 0 c).flushed 5 t = ((cfg0.win 5).blk t).view.read (Elt F) (G5 (V m c main_arg0) (V m c main_arg1) (V m c main_arg2) (V m c main_arg3)) := by
  show (cfg0.win 5).cut (grid0.coords t) ((dats m 0 c).after 5 t) = _
  rw [after0_5, out5_eq, iblk0_eq, iblk1_eq, iblk2_eq, iblk3_eq]
  exact cut5_eq t _

/-- Every index of the array is in the point's block. -/
theorem covered5 (i : S4x1024x1024.Idx) :
    ∃ t : Fin cfg0.N, (cfg0.win 5).flush t = true ∧ i ∈ ((cfg0.win 5).blk t).view.set :=
  ⟨(⟨0, by decide⟩ : Fin cfg0.N), flush0_5 _, by have h := ((cfg0.win 5).blk (⟨0, by decide⟩ : Fin cfg0.N)).view.emb_mem_set i; rwa [emb5] at h⟩

/-- The array after the run: `G5` of the argument arrays as launched. -/
theorem final5 (c : Dev nD) : (dats m 0 c).arrAt 5 cfg0.N = G5 (m ((c : Thread nD τ).loc main_arg0)) (m ((c : Thread nD τ).loc main_arg1)) (m ((c : Thread nD τ).loc main_arg2)) (m ((c : Thread nD τ).loc main_arg3)) :=
  ((dats m 0 c).arrAt_eq_of_cover 5 (G5 (V m c main_arg0) (V m c main_arg1) (V m c main_arg2) (V m c main_arg3)) (fun t _ => flushed5_eq m c t) covered5).trans (by rw [V_main_arg0, V_main_arg1, V_main_arg2, V_main_arg3])

/-! ### Output window 6: the array after the run -/

/-- What the window's array ends holding: `out0_6` applied to the argument arrays in place of the input blocks. -/
abbrev G6 (a0 : Vec F S4x1024x1024 .bf16) (a1 : Vec F S9216x1024 .fp8e4m3) (a2 : Vec F S9216 .f32) (a3 : Vec F S9216 .f32) : Vec F S4x1024x1 .f32 :=
  k0_pay4 a0

/-- A load of the whole of a block reads the block, and the one store through the whole rectangle leaves its payload. -/
theorem out6_eq (a0 : Vec F S4x1024x1024 .bf16) (a1 : Vec F S9216x1024 .fp8e4m3) (a2 : Vec F S9216 .f32) (a3 : Vec F S9216 .f32) : out0_6 (F := F) a0 a1 a2 a3 = G6 a0 a1 a2 a3 := by
  unfold out0_6
  rw [View.canon_unit_zero hz6, View.ld_unit_zero (S := S4x1024x1024) hz0 _ a0]

/-- Cutting the point's block out of `X` and reading `X` through the block's view give the same. -/
theorem cut6_eq (t : Fin cfg0.N) (X : Vec F S4x1024x1 .f32) :
    (cfg0.win 6).cut (grid0.coords t) X = ((cfg0.win 6).blk t).view.read (Elt F) X := by
  funext j
  show X j = X (((cfg0.win 6).blk t).view.emb j)
  rw [emb6]

/-- What the point writes back is its block of `G6` of the argument arrays as the region finds them. -/
theorem flushed6_eq (c : Dev nD) (t : Fin cfg0.N) :
    (dats m 0 c).flushed 6 t = ((cfg0.win 6).blk t).view.read (Elt F) (G6 (V m c main_arg0) (V m c main_arg1) (V m c main_arg2) (V m c main_arg3)) := by
  show (cfg0.win 6).cut (grid0.coords t) ((dats m 0 c).after 6 t) = _
  rw [after0_6, out6_eq, iblk0_eq, iblk1_eq, iblk2_eq, iblk3_eq]
  exact cut6_eq t _

/-- Every index of the array is in the point's block. -/
theorem covered6 (i : S4x1024x1.Idx) :
    ∃ t : Fin cfg0.N, (cfg0.win 6).flush t = true ∧ i ∈ ((cfg0.win 6).blk t).view.set :=
  ⟨(⟨0, by decide⟩ : Fin cfg0.N), flush0_6 _, by have h := ((cfg0.win 6).blk (⟨0, by decide⟩ : Fin cfg0.N)).view.emb_mem_set i; rwa [emb6] at h⟩

/-- The array after the run: `G6` of the argument arrays as launched. -/
theorem final6 (c : Dev nD) : (dats m 0 c).arrAt 6 cfg0.N = G6 (m ((c : Thread nD τ).loc main_arg0)) (m ((c : Thread nD τ).loc main_arg1)) (m ((c : Thread nD τ).loc main_arg2)) (m ((c : Thread nD τ).loc main_arg3)) :=
  ((dats m 0 c).arrAt_eq_of_cover 6 (G6 (V m c main_arg0) (V m c main_arg1) (V m c main_arg2) (V m c main_arg3)) (fun t _ => flushed6_eq m c t) covered6).trans (by rw [V_main_arg0, V_main_arg1, V_main_arg2, V_main_arg3])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G4 (m ((c : Thread nD τ).loc main_arg0)) (m ((c : Thread nD τ).loc main_arg1)) (m ((c : Thread nD τ).loc main_arg2)) (m ((c : Thread nD τ).loc main_arg3))
      ∧ r.2.mem ((c : Thread nD τ).loc main_v0_1) = G5 (m ((c : Thread nD τ).loc main_arg0)) (m ((c : Thread nD τ).loc main_arg1)) (m ((c : Thread nD τ).loc main_arg2)) (m ((c : Thread nD τ).loc main_arg3))
      ∧ r.2.mem ((c : Thread nD τ).loc main_v0_2) = G6 (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(post4 m r h c).trans (final4 m c),
      (post5 m r h c).trans (final5 m c),
      (post6 m r h c).trans (final6 m c),
      kept_main_arg0 m r h c,
      kept_main_arg1 m r h c,
      kept_main_arg2 m r h c,
      kept_main_arg3 m r h c⟩)
    (run_main m ρ)

end Cert.ReferenceIdeal.Own

end
-- ==== Proof.Own.Result.lean ====
/- The value claim: at the ideal values, on every input whose rows are in range, the kernel and the reference leave the same
   three results. -/
module

public import proofs.«01_k».proof.Proof.Own.Arrays
public import proofs.«01_k».proof.Proof.Own.Final
public import proofs.«01_k».proof.Proof.Own.RefRun

@[expose] public section

set_option maxRecDepth 16384

noncomputable section

namespace Cert.KernelIdeal.Own

open Cert.KernelIdeal Cert.KernelIdeal.Gen Cert.Rows
open Idealize.ShloMosaic Idealize.ShloMosaic.TcCoe Idealize.SL.Sem

variable (m : (ℓ : Loc nD τ sig) → Buf (Elt Ideal) ℓ) (ρ : Dev nD → PrngReg)
variable (hr : ∀ (c : Dev nD) (s : Fin 4) (r : Fin 1024), InRange (rowOf (argX m c) s r))

include hr in
/-- The kernel's run leaves the reference's three results. -/
theorem run_kernel : θ_run defs (onTc (τ := τ) (main (F := Ideal))) ⟨m, fun _ => 0, ρ⟩ (fun r => ∀ c : Dev nD,
      r.2.mem ((c.tc : Thread nD τ).loc main_v2_0) = refY m c
      ∧ r.2.mem ((c.tc : Thread nD τ).loc main_v2_1) = refCodes m c
      ∧ r.2.mem ((c.tc : Thread nD τ).loc main_v3) = refScale m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  run_of m ρ (refY m) (refCodes m) (refScale m) (yAtPt_apply m hr) (codesAt_apply m hr) (rowAt_apply m hr)

/-- The reference's run, from arguments that agree with the kernel's, leaves the same three. -/
theorem run_reference (m' : (ℓ : Loc Cert.ReferenceIdeal.nD Cert.ReferenceIdeal.τ Cert.ReferenceIdeal.sig) → Buf (Elt Ideal) ℓ)
    (ρ' : Dev Cert.ReferenceIdeal.nD → PrngReg)
    (h0 : ∀ c : Dev nD, m' ((c.tc : Thread Cert.ReferenceIdeal.nD Cert.ReferenceIdeal.τ).loc Cert.ReferenceIdeal.main_arg0) = argX m c)
    (h1 : ∀ c : Dev nD, m' ((c.tc : Thread Cert.ReferenceIdeal.nD Cert.ReferenceIdeal.τ).loc Cert.ReferenceIdeal.main_arg1) = argW m c)
    (h2 : ∀ c : Dev nD, m' ((c.tc : Thread Cert.ReferenceIdeal.nD Cert.ReferenceIdeal.τ).loc Cert.ReferenceIdeal.main_arg2) = argS m c)
    (h3 : ∀ c : Dev nD, m' ((c.tc : Thread Cert.ReferenceIdeal.nD Cert.ReferenceIdeal.τ).loc Cert.ReferenceIdeal.main_arg3) = argB m c) :
    θ_run (Cert.ReferenceIdeal.defs (F := Ideal)) (onTc (τ := Cert.ReferenceIdeal.τ) (Cert.ReferenceIdeal.main (F := Ideal))) ⟨m', fun _ => 0, ρ'⟩
      (fun r => ∀ c : Dev Cert.ReferenceIdeal.nD,
        r.2.mem ((c.tc : Thread Cert.ReferenceIdeal.nD Cert.ReferenceIdeal.τ).loc Cert.ReferenceIdeal.main_v0_0) = refY m c
        ∧ r.2.mem ((c.tc : Thread Cert.ReferenceIdeal.nD Cert.ReferenceIdeal.τ).loc Cert.ReferenceIdeal.main_v0_1) = refCodes m c
        ∧ r.2.mem ((c.tc : Thread Cert.ReferenceIdeal.nD Cert.ReferenceIdeal.τ).loc Cert.ReferenceIdeal.main_v0_2) = refScale m c
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)) := by
  have e4 : ∀ c : Dev nD, Cert.ReferenceIdeal.Own.G4 (argX m c) (argW m c) (argS m c) (argB m c) = refY m c := fun _ => rfl
  have e5 : ∀ c : Dev nD, Cert.ReferenceIdeal.Own.G5 (argX m c) (argW m c) (argS m c) (argB m c) = refCodes m c := fun _ => rfl
  have e6 : ∀ c : Dev nD, Cert.ReferenceIdeal.Own.G6 (argX m c) (argW m c) (argS m c) (argB m c) = refScale m c := fun _ => rfl
  refine (θ_run _ _ _).mono (fun _ h c => ?_) (Cert.ReferenceIdeal.Own.run m' ρ')
  obtain ⟨q0, q1, q2, q⟩ := h c
  have a0 := h0 c
  have a1 := h1 c
  have a2 := h2 c
  have a3 := h3 c
  refine ⟨q0.trans (Eq.trans ?_ (e4 c)), q1.trans (Eq.trans ?_ (e5 c)), q2.trans (Eq.trans ?_ (e6 c)), q⟩
  all_goals rw [a0, a1, a2, a3]

end Cert.KernelIdeal.Own

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_rows_in_range
public import proofs.«01_k».proof.Proof.Own.Body
public import proofs.«01_k».proof.Proof.Own.Same
public import proofs.«01_k».proof.Proof.Own.Pre
public import proofs.«01_k».proof.Proof.Own.Result
public import Idealize.ShloMosaic.Adequacy
public import Idealize.ShloMosaic.Init

@[expose] public section

noncomputable section

namespace Cert.Proof

open Idealize.ShloMosaic Idealize.SL.Sem Cert.Kernel

/-- Under the precondition the kernel and the reference leave the same three results. -/
theorem algebraic : Cert.algebraic_KernelIdeal_ReferenceIdeal_pre_rows_in_range := by
  intro m g m' g' hpre hargs
  have hr : ∀ (c : Dev Cert.KernelIdeal.nD) (s : Fin 4) (r : Fin 1024),
      Cert.Rows.InRange (Cert.KernelIdeal.Own.rowOf (Cert.KernelIdeal.Own.argX m c) s r) := fun c s r =>
    Cert.Pre_rows_in_range.Own.inRange_of_fn _ _ _ _ (hpre c) s r
  exact ⟨Cert.KernelIdeal.Own.refY m, Cert.KernelIdeal.Own.refCodes m, Cert.KernelIdeal.Own.refScale m,
    Cert.KernelIdeal.Own.run_kernel m g hr,
    Cert.KernelIdeal.Own.run_reference m m' g' (fun c => (hargs c).1) (fun c => (hargs c).2.1) (fun c => (hargs c).2.2.1)
      (fun c => (hargs c).2.2.2)⟩

theorem claim : Cert.Claim :=
  ⟨Cert.Kernel.Gen.facts, Cert.KernelIdeal.Gen.facts, Cert.ReferenceIdeal.Gen.facts, Cert.Pre_rows_in_range.Gen.facts,
    Cert.Same.quiescent_of (fun m ρ => Cert.KernelIdeal.Own.frame m ρ), fun m ρ _ => Cert.KernelIdeal.Own.frame m ρ,
    fun m ρ _ => Cert.KernelIdeal.Own.frame m ρ, fun m ρ _ => Cert.ReferenceIdeal.Gen.frame m ρ,
    fun m ρ _ => Cert.ReferenceIdeal.Gen.frame m ρ, trivial, algebraic⟩

end Cert.Proof

end
